-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 4096, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 512]⟩ ⟨3, ![4, 4096, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S1x1024x512 : Shape := ⟨3, ![1, 1024, 512]⟩
abbrev S4x3x512 : Shape := ⟨3, ![4, 3, 512]⟩
abbrev S_ : Shape := ⟨0, ![]⟩
abbrev S1x3x512 : Shape := ⟨3, ![1, 3, 512]⟩
abbrev S1x1027x512 : Shape := ⟨3, ![1, 1027, 512]⟩
abbrev S1x512 : Shape := ⟨2, ![1, 512]⟩
abbrev S512 : Shape := ⟨1, ![512]⟩
abbrev S1x1x512 : Shape := ⟨3, ![1, 1, 512]⟩
abbrev S1x6x512 : Shape := ⟨3, ![1, 6, 512]⟩

abbrev nBuf : Space → Nat
  | .hbm => 3
  | .vmem => 7
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S4x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S4x512, .f32⟩
  | .local _ .vmem, ⟨3, _⟩ => ⟨S1x1024x512, .f32⟩
  | .local _ .vmem, ⟨4, _⟩ => ⟨S1x1024x512, .f32⟩
  | .local _ .vmem, ⟨5, _⟩ => ⟨S4x3x512, .f32⟩
  | .local _ .vmem, ⟨6, _⟩ => ⟨S4x3x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_6 : BitVec 32 := 0#32
  let v12 : BitVec 1 := Scalar.cmpi .ne v11 c0_i32_6
  v12

def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_29 : BitVec 32 := 1#32
  let v99 : BitVec 32 := Scalar.muli v5 c1_i32_29
  let v100 : BitVec 32 := Scalar.addi c0_i32_30 v99
  v100.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_32 : BitVec 32 := 1#32
  let v101 : BitVec 32 := Scalar.muli v7 c1_i32_32
  let v102 : BitVec 32 := Scalar.addi c0_i32_33 v101
  v102.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_39 : BitVec 32 := 1#32
  let v105 : BitVec 32 := Scalar.muli v7 c1_i32_39
  let v106 : BitVec 32 := Scalar.addi c0_i32_40 v105
  v106.toNat
def k0_off1 (i : grid0.Coords) : Fin 3 → Nat :=
  let arg0 : BitVec 32 := BitVec.ofNat 32 (i 0).val
  let v55 : Index := Scalar.indexCast arg0
  let c0_18 : Index := 0#32
  let c0_19 : Index := 0#32
  ![v55.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x4096x512 : Shape := ⟨3, ![4, 4096, 512]⟩
abbrev S4x512 : Shape := ⟨2, ![4, 512]⟩
abbrev S_ : Shape := ⟨0, ![]⟩
abbrev S4x3x512 : Shape := ⟨3, ![4, 3, 512]⟩
abbrev S4x4099x512 : Shape := ⟨3, ![4, 4099, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x512, .f32⟩
  | .hbm, ⟨2, _⟩ => ⟨S_, .f32⟩
  | .hbm, ⟨3, _⟩ => ⟨S4x3x512, .f32⟩
  | .hbm, ⟨4, _⟩ => ⟨S4x4099x512, .f32⟩
  | .hbm, ⟨5, _⟩ => ⟨S_, .f32⟩
  | .hbm, ⟨6, _⟩ => ⟨S4x4096x512, .f32⟩
  | .hbm, ⟨7, _⟩ => ⟨S4x4096x512, .f32⟩
  | .hbm, ⟨8, _⟩ => ⟨S1x512, .f32⟩
  | .hbm, ⟨9, _⟩ => ⟨S512, .f32⟩
  | .hbm, ⟨10, _⟩ => ⟨S1x1x512, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S4x4096x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S4x4096x512, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S_, .f32⟩
  | .hbm, ⟨38, _⟩ => ⟨S4x4096x512, .f32⟩
  | .hbm, ⟨39, _⟩ => ⟨S4x4096x512, .f32⟩
  | .hbm, ⟨40, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Proof.Ring.lean ====
/-
The talk between the devices.

Each device keeps a block of the sequence, so the first rows of its result need the last three rows of the device on
its left.  At the first grid point every device tells both neighbours that it is there, waits for both, copies its own
tail rows into a buffer of its own, and sends that buffer to its right neighbour.  This module fixes the words of the
proof: who the neighbours are, which semaphore cells take part, what a payment to each cell carries, and in which order
a device may wait.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Transfers
public import Idealize.ShloMosaic.Lib.Tactic

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra -/

/-- Rounds of payments whose duties are told apart by a bit. -/
abbrev UTalk : Type := URounds (GSem nD τ sig) Bool
/-- The pipeline's own rounds, the neighbours' rounds, and the counters of the device's local copy. -/
abbrev UAll : Type := UR sig nD τ × (UTalk × Counters)

local notation "𝕄" => MT nD τ sig Unit (Elt F) ℕ UAll ℕ

/-- Where the pipeline's rounds lie. -/
abbrev EPipe : Emb (UR sig nD τ) (MT nD τ sig Unit (Elt F) ℕ UAll ℕ) := embL
/-- Where the neighbours' rounds lie. -/
def ETalk : Emb UTalk (MT nD τ sig Unit (Elt F) ℕ UAll ℕ) :=
  ((Emb.inl : Emb UTalk (UTalk × Counters)).trans (Emb.inr : Emb (UTalk × Counters) UAll)).trans
    (uEmb (nD := nD) (sig := sig) (Ix := Unit) (Val := Elt F) (Name := ℕ) (U := UAll) (Lvl := ℕ)).toEmb
instance ETalk_lands : (ETalk : Emb UTalk 𝕄).LandsIn (upEmb : UEmb _ 𝕄) := by unfold ETalk; infer_instance

/-- No loop in this program needs a measure. -/
abbrev noLoops : Variants := Variants.none

variable (m : (ℓ : Loc nD τ sig) → Buf (Elt F) ℓ)

/-! ## Neighbours -/

set_option backward.proofsInPublic true in
/-- The neighbour on the right. -/
def right (c : Dev nD) : Dev nD := ⟨(c.val + 1) % 4, Nat.mod_lt _ (by decide)⟩
set_option backward.proofsInPublic true in
/-- The neighbour on the left. -/
def left (c : Dev nD) : Dev nD := ⟨(c.val + 3) % 4, Nat.mod_lt _ (by decide)⟩

theorem left_right : ∀ c : Dev nD, left (right c) = c := by decide
theorem right_left : ∀ c : Dev nD, right (left c) = c := by decide

/-- One step to the right, as a rearrangement of the devices. -/
def turn : Dev nD ≃ Dev nD := ⟨right, left, left_right, right_left⟩

/-- The program's first signal is addressed to the left neighbour. -/
theorem dev1_left (i : grid0.Coords) (h : k0_cond1 i = 1#1) (c : Dev nD) : (⟨k0_dev1 c, k0_dev1_lt i c h⟩ : Dev nD) = left c :=
  Fin.ext (k0_dev1_eq c)
/-- The second signal is addressed to the right neighbour. -/
theorem dev2_right (i : grid0.Coords) (h : k0_cond1 i = 1#1) (c : Dev nD) : (⟨k0_dev2 c, k0_dev2_lt i c h⟩ : Dev nD) = right c :=
  Fin.ext (k0_dev2_eq c)
/-- The copy is addressed to the right neighbour. -/
theorem dev3_right (i : grid0.Coords) (h : k0_cond1 i = 1#1) (c : Dev nD) : (⟨k0_dev3 c, k0_dev3_lt i c h⟩ : Dev nD) = right c :=
  Fin.ext (k0_dev3_eq c)

/-! ## Buffers -/

/-- The device's block of the input, in its home memory. -/
abbrev inM : Memref sig .tc .hbm S4x1024x512 .f32 := Memref.whole main_arg0
/-- The last three rows of every batch entry of that block. -/
abbrev tailM : Memref sig .tc .hbm S4x3x512 .f32 :=
  inM.slice (Rect.unit (s := S4x1024x512) ![0, 1021, 0] S4x3x512.size inb_S4x1024x512_S4x3x512_0_1021_0) (fun _ => rfl)
/-- The buffer a device sends from. -/
abbrev sendM : Memref sig .tc .vmem S4x3x512 .f32 := Memref.whole cc0_scratch0
/-- The buffer the left neighbour's tail arrives in. -/
abbrev haloM : Memref sig .tc .vmem S4x3x512 .f32 := Memref.whole cc0_scratch1

/-- The credit one transfer of three rows per batch entry is worth. -/
abbrev credits : ℕ := (haloM : Memref sig .tc .vmem S4x3x512 .f32).view.dmaCredit
theorem credits_pos : 0 < credits := View.dmaCredit_pos _ (by decide)

/-- The tail rows of device `c`'s block. -/
def tailOf (c : Dev nD) : Vec F S4x3x512 .f32 := tailM.view.read (Elt F) (m ((c : Thread nD τ).loc main_arg0))

/-- The send buffer of `c` held whole. -/
def sendPts (c : Dev nD) (f : Buf (Elt F) ((c : Thread nD τ).loc cc0_scratch0)) : sProp 𝕄 :=
  ((c : Thread nD τ).loc cc0_scratch0) ↦{fullShare} f
/-- The arrival buffer of `c` held whole. -/
def haloPts (c : Dev nD) (f : Buf (Elt F) ((c : Thread nD τ).loc cc0_scratch1)) : sProp 𝕄 :=
  ((c : Thread nD τ).loc cc0_scratch1) ↦{fullShare} f

omit [FloatOps F] in
instance sendPts_storable (c : Dev nD) (f) : BI.Storable (upEmb : UEmb _ 𝕄) (sendPts (F := F) c f) := by unfold sendPts; infer_instance
omit [FloatOps F] in
instance haloPts_storable (c : Dev nD) (f) : BI.Storable (upEmb : UEmb _ 𝕄) (haloPts (F := F) c f) := by unfold haloPts; infer_instance

/-! ## Cells -/

/-- The barrier semaphore that every kernel of this collective shares. -/
abbrev barSem : Sem sig := (SemArray.scalar (sig.barrier 0 rfl) : Sems sig S_).sem
abbrev bar : SemLoc sig := .reg barSem
abbrev sent : SemLoc sig := .dma cc0_scratch2.sem
abbrev came : SemLoc sig := .dma cc0_scratch3.sem
abbrev tail : SemLoc sig := .dma cc0_scratch4.sem

/-- The cell of semaphore `s` on device `c`. -/
abbrev at' (c : Dev nD) (s : SemLoc sig) : GSem nD τ sig := ((c : Thread nD τ), s)

theorem sent_ne_bar : sent ≠ bar := fun h => by cases h
theorem came_ne_bar : came ≠ bar := fun h => by cases h
theorem tail_ne_bar : tail ≠ bar := fun h => by cases h
theorem came_ne_sent : came ≠ sent := by decide
theorem sent_ne_came : sent ≠ came := by decide
theorem tail_ne_came : tail ≠ came := by decide

/-! ## What is paid where -/

/-- With its signal to the left a device hands over its own arrival buffer, and that its arrival cell is ready. -/
def handover (c : Dev nD) : sProp 𝕄 := iprop((∃ f, haloPts (right c) f) ∗ reached ETalk (at' (right c) came) 0)

/-- What the payment named by the bit carries into the cell of `s` on `c`. -/
def carries (c : Dev nD) (s : SemLoc sig) (d : Bool) : sProp 𝕄 :=
  if s = bar then (if d then handover c else iprop(emp))
  else if s = came then haloPts c (tailOf m (left c))
  else if s = sent then sendPts c (tailOf m c)
  else iprop(emp)

omit [FloatOps F] in
instance carries_storable (c : Dev nD) (s : SemLoc sig) (d : Bool) : BI.Storable (upEmb : UEmb _ 𝕄) (carries (F := F) m c s d) := by
  unfold carries handover
  (repeat' split) <;> infer_instance

/-- A barrier cell waits for two payments, one per neighbour (`true` from the right); a transfer's cell for one. -/
def named (s : SemLoc sig) : Finset Bool := if s = bar then Finset.univ else {false}

/-- All payments fall into round 0. -/
def talk : Rounds.Schedule (GSem nD τ sig) Bool 𝕄 where
  duties g r := if r = 0 then named g.2 else ∅
  unitless _ := False
  amount g _ _ := if g.2 = bar then 1 else credits
  payload g _ d := carries m g.1.1 g.2 d
  amount_pos g _ _ _ := by
    split
    · exact Nat.one_pos
    · exact credits_pos

omit [FloatOps F] in
instance talk_storable (g : GSem nD τ sig) (r : ℕ) (d : Bool) : BI.Storable (upEmb : UEmb _ 𝕄) ((talk (F := F) m).payload g r d) :=
  carries_storable m g.1.1 g.2 d

section Table
variable (c : Dev nD)

omit [FloatOps F] in
theorem duties0 (s : SemLoc sig) : (talk (F := F) m).duties (at' c s) 0 = named s := by dsimp only [talk]; exact if_pos rfl
omit [FloatOps F] in
theorem no_more (g : GSem nD τ sig) : ∀ r, 1 ≤ r → (talk (F := F) m).duties g r = ∅ := fun r hr => by
  dsimp only [talk]; exact if_neg (by omega)
theorem named_bar : named bar = Finset.univ := if_pos rfl
theorem named_sent : named sent = {false} := if_neg sent_ne_bar
theorem named_came : named came = {false} := if_neg came_ne_bar
omit [FloatOps F] in
theorem amount_bar (d : Bool) : (talk (F := F) m).amount (at' c bar) 0 d = 1 := by dsimp only [talk]; exact if_pos rfl
omit [FloatOps F] in
theorem amount_copy {s : SemLoc sig} (hs : s ≠ bar) (d : Bool) : (talk (F := F) m).amount (at' c s) 0 d = credits := by
  dsimp only [talk]; exact if_neg hs
omit [FloatOps F] in
theorem total_bar : (talk (F := F) m).expect (at' c bar) 0 = 2 := by
  unfold Schedule.expect Schedule.amountOf
  rw [duties0, named_bar, Fintype.sum_bool, amount_bar, amount_bar]
omit [FloatOps F] in
theorem total_copy {s : SemLoc sig} (hs : s ≠ bar) : (talk (F := F) m).expect (at' c s) 0 = credits := by
  unfold Schedule.expect Schedule.amountOf
  rw [duties0, named, if_neg hs, Finset.sum_singleton, amount_copy m c hs]

omit [FloatOps F] in
theorem payload_at (s : SemLoc sig) (d : Bool) : (talk (F := F) m).payload (at' c s) 0 d = carries m c s d := rfl
omit [FloatOps F] in
theorem carries_right : carries (F := F) m c bar true = handover c := by unfold carries; rw [if_pos rfl, if_pos rfl]
omit [FloatOps F] in
theorem carries_left : carries (F := F) m c bar false = iprop(emp) := by unfold carries; rw [if_pos rfl]; exact if_neg Bool.false_ne_true
omit [FloatOps F] in
theorem carries_came (d : Bool) : carries (F := F) m c came d = haloPts c (tailOf m (left c)) := by
  unfold carries; rw [if_neg came_ne_bar, if_pos rfl]
omit [FloatOps F] in
theorem carries_sent (d : Bool) : carries (F := F) m c sent d = sendPts c (tailOf m c) := by
  unfold carries; rw [if_neg sent_ne_bar, if_neg sent_ne_came, if_pos rfl]

omit [FloatOps F] in
/-- All that a barrier cell collects. -/
theorem all_bar : bigSep ((talk (F := F) m).duties (at' c bar) 0 \ ∅) (fun d => (talk (F := F) m).payload (at' c bar) 0 d)
    = iprop(handover c ∗ emp) := by
  rw [Finset.sdiff_empty, duties0, named_bar, bigSep_univ_eq_bigSepL [true, false] (by decide) (by decide), bigSepL_cons_cons,
    bigSepL_singleton, payload_at, payload_at, carries_right, carries_left]
  rfl
omit [FloatOps F] in
/-- All that a transfer's cell collects. -/
theorem all_copy {s : SemLoc sig} (hs : s ≠ bar) :
    bigSep ((talk (F := F) m).duties (at' c s) 0 \ ∅) (fun d => (talk (F := F) m).payload (at' c s) 0 d) = carries m c s false := by
  rw [Finset.sdiff_empty, duties0, named, if_neg hs, bigSep_singleton, payload_at]

end Table

/-! ## Debts and the order of waits -/

/-- What a device still owes its right neighbour when it has sent both signals: the copy. -/
def owesCopy (c : Dev nD) : CellTallies nD τ sig Unit := tallyAt (at' (right c) came) () credits
/-- Before the signal to the right, that signal too. -/
def owesRight (c : Dev nD) : CellTallies nD τ sig Unit := owesCopy c + tallyAt (at' (right c) bar) () 1
/-- At the start, also the signal to the left. -/
def owesAll (c : Dev nD) : CellTallies nD τ sig Unit := owesRight c + tallyAt (at' (left c) bar) () 1

/-- Only the tensor cores' cells carry a level. -/
def marks (g : GSem nD τ sig) : Finset Unit := if g.1.2 = .tc then {()} else ∅
/-- Barrier first, arrivals after it, and whatever a device settles by itself before both. -/
def rank (g : GSem nD τ sig) (_ : Unit) : ℕ := if g.2 = bar then 1 else if g.2 = came then 2 else 0

theorem marks_other (g : GSem nD τ sig) (h : g.1.2 ≠ .tc) : marks g = ∅ := if_neg h
theorem mem_marks (c : Dev nD) (s : SemLoc sig) (u : Unit) : u ∈ marks (at' c s) := by
  unfold marks; rw [if_pos rfl]; exact Finset.mem_singleton_self _

theorem rank_bar (c : Dev nD) (u : Unit) : rank (at' c bar) u = 1 := if_pos rfl
theorem rank_came (c : Dev nD) (u : Unit) : rank (at' c came) u = 2 := by unfold rank; rw [if_neg came_ne_bar, if_pos rfl]
theorem rank_own (c : Dev nD) (q : DmaSem sig) (h : SemLoc.dma q ≠ came) (u : Unit) : rank (at' c (.dma q)) u = 0 := by
  unfold rank; rw [if_neg (fun h => by cases h), if_neg h]

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owesCopy_pos {c : Dev nD} {g : GSem nD τ sig} {u : Unit} (h : 0 < owesCopy c g u) : g = at' (right c) came := tally_pos h

theorem owesAll_pos {c : Dev nD} {g : GSem nD τ sig} {u : Unit} (h : 0 < owesAll c g u) :
    g = at' (right c) came ∨ g = at' (right c) bar ∨ g = at' (left c) bar := by
  unfold owesAll owesRight at h
  rw [Pi.add_apply, Finsupp.add_apply, Pi.add_apply, Finsupp.add_apply] at h
  rcases Nat.add_pos_iff_pos_or_pos.mp h with h | h
  · rcases Nat.add_pos_iff_pos_or_pos.mp h with h | h
    · exact .inl (owesCopy_pos h)
    · exact .inr (.inl (tally_pos h))
  · exact .inr (.inr (tally_pos h))

omit [FloatOps F] in
/-- A device may wait on a cell of its own that ranks below everything it owes. -/
theorem mayWait_under (c : Dev nD) (s : SemLoc sig) (k : ℕ) (hs : rank (at' c s) () ≤ k) (O : CellTallies nD τ sig Unit)
    (hO : ∀ g u, 0 < O g u → u ∈ marks g ∧ k < rank g u) : (levAts marks rank : sProp 𝕄) ⊢ MayWait (c : Thread nD τ) s () O :=
  MayOwe.of_cut (L := marks) (lev := rank) k (fun p hp => by rw [Finset.mem_singleton.mp hp]; exact mem_marks c s ())
    (fun g u hg => (hO g u hg).1) (fun p hp => by rw [Finset.mem_singleton.mp hp]; exact hs) (fun g u hg => (hO g u hg).2)

omit [FloatOps F] in
/-- On a cell that only it uses, a device may wait whatever of its debts it still has. -/
theorem mayWait_own (c : Dev nD) (q : DmaSem sig) (hq : SemLoc.dma q ≠ came) (O : CellTallies nD τ sig Unit)
    (hO : O = owesAll c ∨ O = owesCopy c ∨ O = 0) : (levAts marks rank : sProp 𝕄) ⊢ MayWait (c : Thread nD τ) (.dma q) () O := by
  refine mayWait_under c _ 0 (le_of_eq (rank_own c q hq ())) O fun g u hg => ?_
  rcases hO with rfl | rfl | rfl
  · rcases owesAll_pos hg with rfl | rfl | rfl
    · exact ⟨mem_marks _ _ _, by rw [rank_came]; decide⟩
    · exact ⟨mem_marks _ _ _, by rw [rank_bar]; decide⟩
    · exact ⟨mem_marks _ _ _, by rw [rank_bar]; decide⟩
  · rw [owesCopy_pos hg]; exact ⟨mem_marks _ _ _, by rw [rank_came]; decide⟩
  · exact absurd hg (Nat.lt_irrefl 0)

omit [FloatOps F] in
/-- At the barrier a device owes its right neighbour the copy only. -/
theorem mayWait_bar (c : Dev nD) : (levAts marks rank : sProp 𝕄) ⊢ MayWait (c : Thread nD τ) bar () (owesCopy c) :=
  mayWait_under c _ 1 (le_of_eq (rank_bar c ())) _ fun g u hg => by
    rw [owesCopy_pos hg]; exact ⟨mem_marks _ _ _, by rw [rank_came]; decide⟩

end Cert.HaloProof

end
-- ==== Proof.Step.lean ====
/-
What one grid point does.

The body is cut where the program is cut: the part that reads the taps, talks to the neighbours at the first point and
reads the block; the part that stores the block's own convolution and waits for the copies at the first point; and the
end that rewrites the first three rows.
-/
module

public import proofs.«01_k».proof.Proof.Ring

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ)

/-! ## What a point computes -/

/-- The device's number as the program's word. -/
abbrev place (c : Dev nD) : BitVec 32 := Scalar.remsi (Scalar.divsi (Dev.word c) 1#32) 4#32

/-- The rows that arrived from the left for the point's batch entry. -/
def arrived (c : Dev nD) (i : grid0.Coords) : Vec F S1x3x512 .f32 :=
  fun y => tailOf m (left c) ((Rect.unit (s := S4x3x512) (k0_off1 i) S1x3x512.size (k0_off1_inb i)).emb y)

/-- The block's own convolution, zero in front of it. -/
def plain (k : Vec F S4x512 .f32) (x : Vec F S1x1024x512 .f32) : Vec F S1x1024x512 .f32 := k0_pay7 (k0_pay5 k x) (k0_pay6 k x)

/-- The first three rows, with the rows `h` in front of them. -/
def lead (c : Dev nD) (k : Vec F S4x512 .f32) (x : Vec F S1x1024x512 .f32) (h : Vec F S1x3x512 .f32) : Vec F S1x3x512 .f32 :=
  k0_pay1 (k0_pay9 (place c) (k0_pay2 k) (k0_pay3 x) h) (k0_pay10 (place c) (k0_pay2 k) (k0_pay3 x) h)

/-- The place of an early row among the first three. -/
def early (j : S1x1024x512.Idx) (hj : (j 1).val < 3) : S1x3x512.Idx := fun a => ⟨(j a).val, by
  fin_cases a
  · exact (j 0).isLt
  · exact hj
  · exact (j 2).isLt⟩

/-- The block a point leaves: the first three rows rewritten. -/
def patched (hd : Vec F S1x3x512 .f32) (x : Vec F S1x1024x512 .f32) : Vec F S1x1024x512 .f32 :=
  fun j => if hj : (j 1).val < 3 then hd (early j hj) else x j

/-! ## Loads and stores on an owned view -/

section Access
variable {cs : CoreSpace} {s : Shape} {e : EltTy} {M : Memref sig .tc cs s e}

/-- A load reads the owned view at the rectangle. -/
theorem load_owned (c : Dev nD) {r : LoadRect s} {hl : M.view.LoadsAt r} {q : PosShare TreeShare} {X : s.Idx → Elt F e}
    {α : Type} {Q : α → sProp 𝕄} {k : (r.shape.Idx → Elt F e) → Prog (TpuEff nD τ sig (Elt F) Λ₀ .tc) α} :
    (owns (c : Thread nD τ) M q X : sProp 𝕄)
      ⊢ iprop(((owns (c : Thread nD τ) M q X) -∗ wp frame (wpE (defs₀ (F := F)) noLoops (c : Thread nD τ) none) Set.univ (k fun y => X (r.idx y)) Q)
        -∗ wp frame (wpE (defs₀ (F := F)) noLoops (c : Thread nD τ) none) Set.univ (.op (.load M r hl) k) Q) := by
  unfold owns
  iintro ⟨%f, %hf, H⟩ Hk
  iapply (wp_load noLoops (c : Thread nD τ) none Set.univ (m := M) (S := M.view.set) (f := f)
    (Finset.map_subset_map.mpr (Finset.subset_univ _))) $$ H
  iintro H
  rw [show M.view.readAt (Elt F) r f = fun y => X (r.idx y) from by rw [← hf]; rfl]
  iapply Hk
  iexists f
  isplitr; · ipureintro; exact hf
  iexact H

/-- A store changes the owned view at the rectangle only. -/
theorem store_owned (c : Dev nD) {r : Rect s} {w : r.shape.Idx → Elt F e} {hx : (M.access r).Stores Finset.univ}
    {hm : (Finset.univ : Finset r.shape.Idx) = Finset.univ ∨ ∀ a, r.stride a = 1} {X : s.Idx → Elt F e} (Y : s.Idx → Elt F e)
    (hin : ∀ x, Y (r.emb x) = w x) (hout : ∀ y, y ∉ Finset.univ.map r.emb → Y y = X y)
    {α : Type} {Q : α → sProp 𝕄} {k : PUnit → Prog (TpuEff nD τ sig (Elt F) Λ₀ .tc) α} :
    (owns (c : Thread nD τ) M fullShare X : sProp 𝕄)
      ⊢ iprop(((owns (c : Thread nD τ) M fullShare Y) -∗ wp frame (wpE (defs₀ (F := F)) noLoops (c : Thread nD τ) none) Set.univ (k ⟨⟩) Q)
        -∗ wp frame (wpE (defs₀ (F := F)) noLoops (c : Thread nD τ) none) Set.univ (.op (.store M r w Finset.univ hx hm) k) Q) := by
  unfold owns
  iintro ⟨%f, %hf, H⟩ Hk
  iapply (wp_store noLoops (c : Thread nD τ) none Set.univ (m := M) (r := r) (w := w) (Mk := Finset.univ) (S := M.view.set) (f := f)
    (by rw [View.setOn_univ, View.set_slice]; exact Finset.map_subset_map.mpr (Finset.subset_univ _))) $$ H
  iintro H
  iapply Hk
  iexists _
  isplitr
  · ipureintro
    show M.view.read (Elt F) ((M.view.slice r).write (Elt F) f w Finset.univ) = Y
    funext y
    by_cases hy : y ∈ Finset.univ.map r.emb
    · obtain ⟨x, -, rfl⟩ := Finset.mem_map.mp hy
      exact (View.read_slice_write_emb r f w (Finset.mem_univ x)).trans (hin x).symm
    · rw [View.read_slice_write_of_not_mem r f w _ hy, hf, hout y hy]
  iexact H

end Access

/-! ## Rectangles at the origin -/

theorem origin2 : (![0, 0] : Fin 2 → ℕ) = fun _ => 0 := funext fun a => by fin_cases a <;> rfl
theorem origin3 : (![0, 0, 0] : Fin 3 → ℕ) = fun _ => 0 := funext fun a => by fin_cases a <;> rfl

/-- A rectangle of the whole shape at the origin renames nothing. -/
theorem emb_all {s : Shape} {off : Fin s.rank → ℕ} (h0 : off = fun _ => 0) (inb : ∀ a, off a + s.size a ≤ s.size a) (y : s.Idx) :
    (Rect.unit (s := s) off s.size inb).emb y = y := by
  subst h0
  funext a
  apply Fin.ext
  rw [Rect.emb_apply]
  simp [Rect.unit]

abbrev headRect : Rect S1x1024x512 := Rect.unit (s := S1x1024x512) ![0, 0, 0] S1x3x512.size inb_S1x1024x512_S1x3x512_0_0_0

theorem head_val (y : S1x3x512.Idx) (a : Fin 3) : (headRect.emb y a).val = (y a).val := by
  rw [Rect.emb_apply]
  simp [Rect.unit, origin3]

theorem early_head (y : S1x3x512.Idx) (h) : early (headRect.emb y) h = y :=
  funext fun a => Fin.ext (head_val y a)

theorem mem_head (j : S1x1024x512.Idx) (hj : (j 1).val < 3) : j ∈ Finset.univ.map headRect.emb :=
  Finset.mem_map.mpr ⟨early j hj, Finset.mem_univ _, funext fun a => Fin.ext (head_val (early j hj) a)⟩

omit [FloatOps F] in
theorem patched_in (hd : Vec F S1x3x512 .f32) (x : Vec F S1x1024x512 .f32) (y : S1x3x512.Idx) : patched hd x (headRect.emb y) = hd y := by
  have h : (headRect.emb y 1).val < 3 := by rw [head_val]; exact (y 1).isLt
  unfold patched
  rw [dif_pos h, early_head]

omit [FloatOps F] in
theorem patched_out (hd : Vec F S1x3x512 .f32) (x : Vec F S1x1024x512 .f32) (j : S1x1024x512.Idx) (h : j ∉ Finset.univ.map headRect.emb) :
    patched hd x j = x j := by
  unfold patched
  rw [dif_neg fun hj => h (mem_head j hj)]

end Cert.HaloProof

end
-- ==== Proof.Parts.lean ====
/-
The body's three parts, run.

Each part is run from what it touches to what it leaves.  The two parts with a branch are run once for the first grid
point, where the branch talks to the neighbours, and once for the others.
-/
module

public import proofs.«01_k».proof.Proof.Step

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ)

/-! ## Single effects of the talk -/

/-- The signal to the left: the device's own arrival buffer goes with it. -/
theorem signal_left (κ : GSem nD τ sig → ℕ) (c n : Dev nD) (hn : n = left c) {α : Type} {Q : α → sProp 𝕄}
    {k : PUnit → Prog (TpuEff nD τ sig (Elt F) Λ₀ .tc) α} (W : Waits sig Unit) (f : Buf (Elt F) ((c : Thread nD τ).loc cc0_scratch1)) :
    iprop(cellInv ETalk (talk m) (κ (at' (left c) bar)) (at' (left c) bar) ∗ owes (c : Thread nD τ) (owesAll c) W
        ∗ dutyTok ETalk (at' (left c) bar) 0 true ∗ reached ETalk (at' (left c) bar) 0 ∗ haloPts c f ∗ reached ETalk (at' c came) 0)
      ⊢ iprop((owes (c : Thread nD τ) (owesRight c) W -∗ wp frame (wpE (defs₀ (F := F)) noLoops (c : Thread nD τ) none) Set.univ (k ⟨⟩) Q)
          -∗ wp frame (wpE (defs₀ (F := F)) noLoops (c : Thread nD τ) none) Set.univ (.op (.semSignal (n : Thread nD τ) barSem (1#32 : BitVec 32).toNat) k) Q) := by
  subst hn
  iintro ⟨HI, HO, Ht, Hr, Hf, Hm⟩
  iapply (Rounds.wp_signal noLoops ETalk (talk m) (c : Thread nD τ) none (dst := (left c : Thread nD τ)) (κ := κ (at' (left c) bar))
    (d := true) (by rw [duties0, named_bar]; exact Finset.mem_univ _) ((amount_bar m (left c) true).trans (by decide)) () (owesRight c) rfl)
  isplitl [HI]; · iexact HI
  isplitl [HO]; · iexact HO
  isplitl [Ht]; · iexact Ht
  isplitl [Hf Hm]
  · rw [payload_at, carries_right]; unfold handover; rw [right_left]
    isplitl [Hf]; · iexists f; iexact Hf
    iexact Hm
  iexact Hr

/-- The signal to the right carries nothing. -/
theorem signal_right (κ : GSem nD τ sig → ℕ) (c n : Dev nD) (hn : n = right c) {α : Type} {Q : α → sProp 𝕄}
    {k : PUnit → Prog (TpuEff nD τ sig (Elt F) Λ₀ .tc) α} (W : Waits sig Unit) :
    iprop(cellInv ETalk (talk m) (κ (at' (right c) bar)) (at' (right c) bar) ∗ owes (c : Thread nD τ) (owesRight c) W
        ∗ dutyTok ETalk (at' (right c) bar) 0 false ∗ reached ETalk (at' (right c) bar) 0)
      ⊢ iprop((owes (c : Thread nD τ) (owesCopy c) W -∗ wp frame (wpE (defs₀ (F := F)) noLoops (c : Thread nD τ) none) Set.univ (k ⟨⟩) Q)
          -∗ wp frame (wpE (defs₀ (F := F)) noLoops (c : Thread nD τ) none) Set.univ (.op (.semSignal (n : Thread nD τ) barSem (1#32 : BitVec 32).toNat) k) Q) := by
  subst hn
  iintro ⟨HI, HO, Ht, Hr⟩
  iapply (Rounds.wp_signal noLoops ETalk (talk m) (c : Thread nD τ) none (dst := (right c : Thread nD τ)) (κ := κ (at' (right c) bar))
    (d := false) (by rw [duties0, named_bar]; exact Finset.mem_univ _) ((amount_bar m (right c) false).trans (by decide)) () (owesCopy c) rfl)
  isplitl [HI]; · iexact HI
  isplitl [HO]; · iexact HO
  isplitl [Ht]; · iexact Ht
  isplitr
  · rw [payload_at, carries_left]; iempintro
  iexact Hr

/-- Waiting for both neighbours: the right one's arrival buffer comes with its signal, and the cell's counter is the
    device's again. -/
theorem wait_both (κ : GSem nD τ sig → ℕ) (c : Dev nD) {α : Type} {Q : α → sProp 𝕄}
    {k : PUnit → Prog (TpuEff nD τ sig (Elt F) Λ₀ .tc) α} (W : Waits sig Unit) :
    iprop(cellInv ETalk (talk m) (κ (at' c bar)) (at' c bar) ∗ cred (tallyAt (at' c bar) () 2) ∗ owes (c : Thread nD τ) (owesCopy c) W
        ∗ levAts marks rank ∗ atPos ETalk (at' c bar) 0 ∅ 0)
      ⊢ iprop(((owes (c : Thread nD τ) (owesCopy c) (insert (bar, ()) W) ∗ semVal (at' c bar) 0 ∗ handover c)
            -∗ wp frame (wpE (defs₀ (F := F)) noLoops (c : Thread nD τ) none) Set.univ (k ⟨⟩) Q)
          -∗ wp frame (wpE (defs₀ (F := F)) noLoops (c : Thread nD τ) none) Set.univ (.op (.semWait barSem (2#32 : BitVec 32).toNat) k) Q) := by
  iintro ⟨#HI, Hc, HO, #Hl, Hat⟩ Hk
  iapply (Rounds.wp_wait_rest_token noLoops ETalk (talk m) (c : Thread nD τ) none (κ := κ (at' c bar))
      (wpE_semWait_eq noLoops (c : Thread nD τ) none Set.univ) (Set.mem_univ _) () (O := owesCopy c) (W := W) (R := 0) (m := 0) (T := ∅)
      (by rw [total_bar]; decide)) $$ [Hc HO Hat]
  · isplitr; · iexact HI
    isplitl [Hc]; · iexact Hc
    isplitl [HO]; · iexact HO
    isplitr; · iapply (mayWait_bar c); iexact Hl
    iexact Hat
  iintro ⟨HO, Hat, -, Hpay⟩
  ihave Hp := (Entails.of_eq (all_bar m c)) $$ Hpay
  icases Hp with ⟨Hp, -⟩
  imod (Rounds.cell_close ETalk (talk m) (Set.mem_univ (κ (at' c bar))) (fun h => h) (R := 0 + 1) (no_more m (at' c bar))) $$ [Hat] with Hz
  · isplitr; · iexact HI
    iexact Hat
  iapply Hk
  isplitl [HO]; · iexact HO
  isplitl [Hz]; · iexact Hz
  iexact Hp

/-- Waiting for one of the two ends of a remote copy, at a point where nothing is owed: what the copy pays comes out, and
    the cell's counter is the device's again. -/
theorem wait_copy (κ : GSem nD τ sig → ℕ) (c : Dev nD) (q : DmaSem sig) {S D : Memref sig .tc .vmem S4x3x512 .f32}
    {hS : S.view.WordExact} {hD : D.view.WordExact} (hN : D.view.dmaCredit = credits) {α : Type} {Q : α → sProp 𝕄}
    {k : PUnit → Prog (TpuEff nD τ sig (Elt F) Λ₀ .tc) α} (W : Waits sig Unit) :
    iprop(cellInv ETalk (talk m) (κ (at' c (.dma q))) (at' c (.dma q)) ∗ cred (tallyAt (at' c (.dma q)) () credits) ∗ owes (c : Thread nD τ) 0 W
        ∗ atPos ETalk (at' c (.dma q)) 0 ∅ 0)
      ⊢ iprop(((owes (c : Thread nD τ) 0 (insert (SemLoc.dma q, ()) W) ∗ semVal (at' c (.dma q)) 0 ∗ carries m c (.dma q) false)
            -∗ wp frame (wpE (defs₀ (F := F)) noLoops (c : Thread nD τ) none) Set.univ (k ⟨⟩) Q)
          -∗ wp frame (wpE (defs₀ (F := F)) noLoops (c : Thread nD τ) none) Set.univ (.op (.waitDma2 q S D hS hD) k) Q) := by
  have hne : (SemLoc.dma q : SemLoc sig) ≠ bar := fun h => by cases h
  iintro ⟨#HI, Hc, HO, Hat⟩ Hk
  rw [← hN]
  iapply (Rounds.wp_wait_rest_token noLoops ETalk (talk m) (c : Thread nD τ) none (κ := κ (at' c (.dma q)))
      (wpE_waitDma2_eq noLoops (c : Thread nD τ) none Set.univ) (Set.mem_univ _) () (O := 0) (W := W) (R := 0) (m := 0) (T := ∅)
      (by rw [Nat.zero_add, total_copy m c hne, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (all_copy m c hne)) $$ Hpay
  imod (Rounds.cell_close ETalk (talk m) (Set.mem_univ (κ (at' c (.dma q)))) (fun h => h) (R := 0 + 1) (no_more m (at' c (.dma q)))) $$ [Hat] with Hz
  · isplitr; · iexact HI
    iexact Hat
  iapply Hk
  isplitl [HO]; · iexact HO
  isplitl [Hz]; · iexact Hz
  iexact Hp

/-- The device's rows of its own input that it sends, held at half. -/
def tailPts (c : Dev nD) : sProp 𝕄 :=
  (tailM : Memref sig .tc .hbm S4x3x512 .f32).view.loc (c : Thread nD τ) ↦[(tailM : Memref sig .tc .hbm S4x3x512 .f32).view.set]{fullShare.right}
    (m ((c : Thread nD τ).loc main_arg0))

omit [FloatOps F] in
theorem sendPts_view (c : Dev nD) (f : Buf (Elt F) ((c : Thread nD τ).loc cc0_scratch0)) :
    sendPts c f = ((sendM : Memref sig .tc .vmem S4x3x512 .f32).view.loc (c : Thread nD τ)
      ↦[(sendM : Memref sig .tc .vmem S4x3x512 .f32).view.set]{fullShare} f : sProp 𝕄) := by
  unfold sendPts; rw [View.set_whole]
omit [FloatOps F] in
theorem haloPts_view (c : Dev nD) (f : Buf (Elt F) ((c : Thread nD τ).loc cc0_scratch1)) :
    haloPts c f = ((haloM : Memref sig .tc .vmem S4x3x512 .f32).view.loc (c : Thread nD τ)
      ↦[(haloM : Memref sig .tc .vmem S4x3x512 .f32).view.set]{fullShare} f : sProp 𝕄) := by
  unfold haloPts; rw [View.set_whole]

/-- The device's copy of its own tail into its send buffer, started and waited for. -/
theorem copy_tail (c : Dev nD) {h1 : (tailM : Memref sig .tc .hbm S4x3x512 .f32).view.WordExact}
    {h2 : (sendM : Memref sig .tc .vmem S4x3x512 .f32).view.WordExact}
    {h3 : (DmaTarget.here sendM : DmaTarget nD τ sig .tc .vmem S4x3x512 .f32).Typed .hbm tail}
    {h4 : (tailM : Memref sig .tc .hbm S4x3x512 .f32).view.WordExact} {h5 : (sendM : Memref sig .tc .vmem S4x3x512 .f32).view.WordExact}
    {α : Type} {Q : α → sProp 𝕄} {k : PUnit → Prog (TpuEff nD τ sig (Elt F) Λ₀ .tc) α} (W : Waits sig Unit)
    (f : Buf (Elt F) ((c : Thread nD τ).loc cc0_scratch0)) :
    iprop(tailPts m c ∗ sendPts c f ∗ semVal (at' c tail) 0 ∗ owes (c : Thread nD τ) (owesCopy c) W ∗ levAts marks rank)
      ⊢ iprop(((tailPts m c ∗ sendPts c (tailOf m c) ∗ semVal (at' c tail) 0 ∗ owes (c : Thread nD τ) (owesCopy c) (insert (tail, ()) W))
            -∗ wp frame (wpE (defs₀ (F := F)) noLoops (c : Thread nD τ) none) Set.univ (k ⟨⟩) Q)
          -∗ wp frame (wpE (defs₀ (F := F)) noLoops (c : Thread nD τ) none) Set.univ
            (.op (.enqueueDma tailM (.here sendM) tail h1 h2 h3) fun _ => .op (.waitDma2 cc0_scratch4.sem tailM sendM h4 h5) k) Q) := by
  unfold tailPts
  simp only [sendPts_view]
  iintro ⟨Ht, Hs, Hv, HO, #Hl⟩ Hk
  iapply (Transfers.wp_dmaLocal countersEmb noLoops (c : Thread nD τ) none () credits rfl credits_pos
    (Finset.Subset.refl _)) $$ [Ht Hs Hv]
  · isplitl [Ht]; · iexact Ht
    isplitl [Hs]; · iexact Hs
    iexact Hv
  iintro HF
  iapply (Transfers.wp_waitLocalO countersEmb noLoops (c : Thread nD τ) none () (srcw := tailM) (dstw := sendM) (N := credits)
    (show (sendM : Memref sig .tc .vmem S4x3x512 .f32).view.dmaCredit = credits from rfl) (O := owesCopy c) (W := W)) $$ [HF HO]
  · isplitl [HF]; · iexact HF
    isplitl [HO]; · iexact HO
    iapply (mayWait_own c cc0_scratch4.sem tail_ne_came (owesCopy c) (.inr (.inl rfl))); iexact Hl
  iintro ⟨⟨Hs, Ht⟩, Hv, HO⟩
  iapply Hk
  isplitl [Ht]; · iexact Ht
  isplitl [Hs]
  · iapply (Entails.of_eq (congrArg (fun g => ((sendM : Memref sig .tc .vmem S4x3x512 .f32).view.loc (c : Thread nD τ)
      ↦[(sendM : Memref sig .tc .vmem S4x3x512 .f32).view.set]{fullShare} g : sProp 𝕄))
      (View.write_whole_univ (Val := Elt F) cc0_scratch0 f (tailOf m c))))
    iexact Hs
  isplitl [Hv]; · iexact Hv
  iexact HO

/-- The copy to the right neighbour, started: both ends will be paid. -/
theorem send_right (κ : GSem nD τ sig → ℕ) (c n : Dev nD) (hn : n = right c)
    {hsc : (haloM : Memref sig (Dev.tc n : Thread nD τ).2.kind .vmem S4x3x512 .f32).view.ref.isScScratch = false}
    {hsrc : (sendM : Memref sig .tc .vmem S4x3x512 .f32).view.WordExact} {hdst : (haloM : Memref sig .tc .vmem S4x3x512 .f32).view.WordExact}
    {hsem : DmaTarget.Typed .vmem came (.remote (Dev.tc n : Thread nD τ) (haloM : Memref sig .tc .vmem S4x3x512 .f32) sent hsc)}
    {α : Type} {Q : α → sProp 𝕄} {k : PUnit → Prog (TpuEff nD τ sig (Elt F) Λ₀ .tc) α} (W : Waits sig Unit) :
    iprop(cellInv ETalk (talk m) (κ (at' c sent)) (at' c sent) ∗ cellInv ETalk (talk m) (κ (at' (right c) came)) (at' (right c) came)
        ∗ sendPts c (tailOf m c) ∗ handover c ∗ owes (c : Thread nD τ) (owesCopy c) W
        ∗ dutyTok ETalk (at' c sent) 0 false ∗ reached ETalk (at' c sent) 0 ∗ dutyTok ETalk (at' (right c) came) 0 false)
      ⊢ iprop(((cred (tallyAt (at' c sent) () credits) ∗ owes (c : Thread nD τ) 0 W)
            -∗ wp frame (wpE (defs₀ (F := F)) noLoops (c : Thread nD τ) none) Set.univ (k ⟨⟩) Q)
          -∗ wp frame (wpE (defs₀ (F := F)) noLoops (c : Thread nD τ) none) Set.univ
              (.op (.enqueueDma sendM (.remote (Dev.tc n : Thread nD τ) haloM sent hsc) came hsrc hdst hsem) k) Q) := by
  subst hn
  unfold handover
  simp only [sendPts_view, haloPts_view]
  iintro ⟨HI, HJ, Hs, ⟨⟨%g, Hg⟩, Hm⟩, HO, Ht, Hr, Ht'⟩
  iapply (Rounds.wp_send_pointsTo noLoops ETalk (talk m) (c : Thread nD τ) none (κ₁ := κ (at' c sent)) (κ₂ := κ (at' (right c) came))
    (r₁ := 0) (r₂ := 0) (d₁ := false) (d₂ := false) (fd := g)
    (by rw [duties0, named_sent]; exact Finset.mem_singleton_self _) (by rw [duties0, named_came]; exact Finset.mem_singleton_self _)
    () () credits rfl (amount_copy m c sent_ne_bar false) (amount_copy m (right c) came_ne_bar false) 0 (by rw [zero_add]) (W := W)
    (by rw [payload_at, carries_sent, sendPts_view])
    (by
      rw [payload_at, carries_came, left_right, haloPts_view]
      exact Entails.of_eq (congrArg (fun g => ((haloM : Memref sig .tc .vmem S4x3x512 .f32).view.loc (right c : Thread nD τ)
        ↦[(haloM : Memref sig .tc .vmem S4x3x512 .f32).view.set]{fullShare} g : sProp 𝕄))
        (View.write_whole_univ (Val := Elt F) cc0_scratch1 g (tailOf m c)))))
  isplitl [HI]; · iexact HI
  isplitl [HJ]; · iexact HJ
  isplitl [Hs]; · iexact Hs
  isplitl [Hg]; · iexact Hg
  isplitl [HO]; · iexact HO
  isplitl [Ht]; · iexact Ht
  isplitl [Hr]; · iexact Hr
  isplitl [Ht']; · iexact Ht'
  iexact Hm

end Cert.HaloProof

end
-- ==== Proof.Point.lean ====
/-
The body at a grid point, whole.

Put together from the parts: at the first point from the neighbours' rounds and at the others from the rows that have
arrived, the point leaves the block with its first three rows patched.
-/
module

public import proofs.«01_k».proof.Proof.Parts

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ)

/-! ## What the talk starts from and what it leaves -/

/-- The invariants of the cells a device touches. -/
def known (κ : GSem nD τ sig → ℕ) (c : Dev nD) : sProp 𝕄 :=
  iprop(cellInv ETalk (talk m) (κ (at' c bar)) (at' c bar) ∗ cellInv ETalk (talk m) (κ (at' c sent)) (at' c sent)
    ∗ cellInv ETalk (talk m) (κ (at' c came)) (at' c came) ∗ cellInv ETalk (talk m) (κ (at' (left c) bar)) (at' (left c) bar)
    ∗ cellInv ETalk (talk m) (κ (at' (right c) bar)) (at' (right c) bar)
    ∗ cellInv ETalk (talk m) (κ (at' (right c) came)) (at' (right c) came))

instance known_persistent (κ : GSem nD τ sig → ℕ) (c : Dev nD) : BI.Persistent (known m κ c) := by unfold known; infer_instance

/-- The four payments a device makes. -/
def purse (c : Dev nD) : sProp 𝕄 :=
  iprop(dutyTok ETalk (at' (left c) bar) 0 true ∗ dutyTok ETalk (at' (right c) bar) 0 false
    ∗ dutyTok ETalk (at' c sent) 0 false ∗ dutyTok ETalk (at' (right c) came) 0 false)

/-- What a device gets out of the launch for the talk, its two transfer cells not yet opened. -/
def pledge (κ : GSem nD τ sig → ℕ) (c : Dev nD) : sProp 𝕄 :=
  iprop(known m κ c ∗ reached ETalk (at' (left c) bar) 0 ∗ reached ETalk (at' (right c) bar) 0
    ∗ atPos ETalk (at' c bar) 0 ∅ 0 ∗ purse c
    ∗ cred (tallyAt (at' c bar) () 2) ∗ cred (tallyAt (at' c came) () credits))

/-- The two transfer cells opened. -/
def opened (c : Dev nD) : sProp 𝕄 :=
  iprop(reached ETalk (at' c sent) 0 ∗ reached ETalk (at' c came) 0 ∗ atPos ETalk (at' c sent) 0 ∅ 0 ∗ atPos ETalk (at' c came) 0 ∅ 0)

/-- Between the copy's start and the waits for its two ends. -/
def flying (κ : GSem nD τ sig → ℕ) (c : Dev nD) : sProp 𝕄 :=
  iprop(known m κ c ∗ atPos ETalk (at' c sent) 0 ∅ 0 ∗ atPos ETalk (at' c came) 0 ∅ 0
    ∗ cred (tallyAt (at' c sent) () credits) ∗ cred (tallyAt (at' c came) () credits))

section Run
variable (c : Dev nD) (i : grid0.Coords)
  (A2 : Memref sig .tc .vmem S1x1024x512 .f32) (h2 : A2.IsWhole) (A3 : Memref sig .tc .vmem S4x512 .f32) (h3 : A3.IsWhole)
  (A4 : Memref sig .tc .vmem S1x1024x512 .f32) (h4 : A4.IsWhole)
  (k : Vec F S4x512 .f32) (x : Vec F S1x1024x512 .f32)

/-- The point's number as the program's word. -/
abbrev turnWord : BitVec 32 := BitVec.ofNat 32 (i 0).val

omit [FloatOps F] in
theorem load_k (X : Vec F S4x512 .f32) :
    (fun y => X ((Rect.unit (s := S4x512) ![0, 0] S4x512.size inb_S4x512_S4x512_0_0).toLoadRect.idx y)) = X :=
  funext fun y => congrArg X (emb_all origin2 _ y)
omit [FloatOps F] in
theorem load_x (X : Vec F S1x1024x512 .f32) :
    (fun y => X ((Rect.unit (s := S1x1024x512) ![0, 0, 0] S1x1024x512.size inb_S1x1024x512_S1x1024x512_0_0_0).toLoadRect.idx y)) = X :=
  funext fun y => congrArg X (emb_all origin3 _ y)

/-- Away from the first point the first part only reads. -/
theorem part1_later (hi : ¬ k0_cond1 i = 1#1) (Q : _ → sProp 𝕄) :
    iprop(owns (c : Thread nD τ) A3 fullShare k ∗ owns (c : Thread nD τ) A2 fullShare x
        ∗ ((owns (c : Thread nD τ) A3 fullShare k ∗ owns (c : Thread nD τ) A2 fullShare x)
          -∗ Q ⟨turnWord i, place c, Scalar.remsi (Scalar.addi (place c) 1#32) 4#32, k0_pay2 k, k0_pay3 x, k0_pay5 k x, k0_pay6 k x⟩))
      ⊢ wp frame (wpE (defs₀ (F := F)) noLoops (c : Thread nD τ) none) Set.univ
          (k0_part1 i inM (Memref.isWhole_whole _) A2 h2 A3 h3 A4 h4 sendM (Memref.isWhole_whole _) haloM (Memref.isWhole_whole _)
            cc0_scratch2 cc0_scratch3 cc0_scratch4) Q := by
  rw [k0_part1_eq_skeleton]; unfold k0_part1_skel
  simp only [Prog.lift, Prog.bind_op, Prog.bind_ret, Prog.pure_eq_ret, wp_deviceId, dif_neg hi]
  iintro ⟨H3, H2, Hk⟩
  iapply (load_owned c) $$ H3; iintro H3
  iapply (load_owned c) $$ H2; iintro H2
  rw [load_k, load_x, wp_ret]; imodintro
  iapply Hk
  isplitl [H3] <;> iassumption

/-- At the first point it also signals both neighbours, waits for both, copies the tail aside and sends it on. -/
theorem part1_first (κ : GSem nD τ sig → ℕ) (hi : k0_cond1 i = 1#1) (W : Waits sig Unit) (Q : _ → sProp 𝕄) :
    iprop((owns (c : Thread nD τ) A3 fullShare k ∗ owns (c : Thread nD τ) A2 fullShare x)
        ∗ (pledge m κ c ∗ opened c ∗ levAts marks rank ∗ tailPts m c ∗ semVal (at' c tail) 0
          ∗ (∃ f, sendPts c f) ∗ (∃ f, haloPts c f) ∗ owes (c : Thread nD τ) (owesAll c) W)
        ∗ (((owns (c : Thread nD τ) A3 fullShare k ∗ owns (c : Thread nD τ) A2 fullShare x)
            ∗ flying m κ c ∗ tailPts m c ∗ semVal (at' c tail) 0 ∗ semVal (at' c bar) 0 ∗ (∃ W', owes (c : Thread nD τ) 0 W'))
          -∗ Q ⟨turnWord i, place c, Scalar.remsi (Scalar.addi (place c) 1#32) 4#32, k0_pay2 k, k0_pay3 x, k0_pay5 k x, k0_pay6 k x⟩))
      ⊢ wp frame (wpE (defs₀ (F := F)) noLoops (c : Thread nD τ) none) Set.univ
          (k0_part1 i inM (Memref.isWhole_whole _) A2 h2 A3 h3 A4 h4 sendM (Memref.isWhole_whole _) haloM (Memref.isWhole_whole _)
            cc0_scratch2 cc0_scratch3 cc0_scratch4) Q := by
  rw [k0_part1_eq_skeleton]; unfold k0_part1_skel
  simp only [semSignalWord, semWaitWord, Prog.lift, Prog.bind_op, Prog.bind_ret, Prog.pure_eq_ret, wp_deviceId, dif_pos hi]
  unfold pledge known purse opened flying known
  iintro ⟨⟨H3, H2⟩, ⟨⟨⟨#IB, #IS, #IC, #IL, #IR, #IRC⟩, #RL, #RR, PB, ⟨TL, TR, TS, TC⟩, CB, CC⟩, ⟨#RS, #RC, PS, PC⟩, #Hl, Ht, Hv, ⟨%fs, Hs⟩, ⟨%fh, Hh⟩, HO⟩, Hk⟩
  iapply (load_owned c) $$ H3; iintro H3
  iapply (signal_left m κ c _ (dev1_left i hi c) W fh) $$ [HO TL Hh]
  · isplitr; · iexact IL
    isplitl [HO]; · iexact HO
    isplitl [TL]; · iexact TL
    isplitr; · iexact RL
    isplitl [Hh]; · iexact Hh
    iexact RC
  iintro HO
  iapply (signal_right m κ c _ (dev2_right i hi c) W) $$ [HO TR]
  · isplitr; · iexact IR
    isplitl [HO]; · iexact HO
    isplitl [TR]; · iexact TR
    iexact RR
  iintro HO
  iapply (wait_both m κ c W) $$ [CB HO PB]
  · isplitr; · iexact IB
    isplitl [CB]; · iexact CB
    isplitl [HO]; · iexact HO
    isplitr; · iexact Hl
    iexact PB
  iintro ⟨HO, Hz, Hhand⟩
  iapply (copy_tail m c _ fs) $$ [Ht Hs Hv HO]
  · isplitl [Ht]; · iexact Ht
    isplitl [Hs]; · iexact Hs
    isplitl [Hv]; · iexact Hv
    isplitl [HO]; · iexact HO
    iexact Hl
  iintro ⟨Ht, Hs, Hv, HO⟩
  iapply (send_right m κ c _ (dev3_right i hi c) _) $$ [Hs Hhand HO TS TC]
  · isplitr; · iexact IS
    isplitr; · iexact IRC
    isplitl [Hs]; · iexact Hs
    isplitl [Hhand]; · iexact Hhand
    isplitl [HO]; · iexact HO
    isplitl [TS]; · iexact TS
    isplitr; · iexact RS
    iexact TC
  iintro ⟨CS, HO⟩
  iapply (load_owned c) $$ H2; iintro H2
  rw [load_k, load_x, wp_ret]; imodintro
  iapply Hk
  isplitl [H3 H2]
  · isplitl [H3] <;> iassumption
  isplitl [PS PC CS CC]
  · isplitr
    · isplitr; · iexact IB
      isplitr; · iexact IS
      isplitr; · iexact IC
      isplitr; · iexact IL
      isplitr; · iexact IR
      iexact IRC
    isplitl [PS]; · iexact PS
    isplitl [PC]; · iexact PC
    isplitl [CS]; · iexact CS
    iexact CC
  isplitl [Ht]; · iexact Ht
  isplitl [Hv]; · iexact Hv
  isplitl [Hz]; · iexact Hz
  iexists _; iexact HO

/-- A store over the whole block leaves what was stored. -/
theorem store_all {M : Memref sig .tc .vmem S1x1024x512 .f32} (w : Vec F S1x1024x512 .f32)
    {hx : (M.access (Rect.unit (s := S1x1024x512) ![0, 0, 0] S1x1024x512.size inb_S1x1024x512_S1x1024x512_0_0_0)).Stores Finset.univ}
    {hm : (Finset.univ : Finset S1x1024x512.Idx) = Finset.univ
      ∨ ∀ a, (Rect.unit (s := S1x1024x512) ![0, 0, 0] S1x1024x512.size inb_S1x1024x512_S1x1024x512_0_0_0).stride a = 1}
    {X : Vec F S1x1024x512 .f32} {α : Type} {Q : α → sProp 𝕄} {k : PUnit → Prog (TpuEff nD τ sig (Elt F) Λ₀ .tc) α} :
    (owns (c : Thread nD τ) M fullShare X : sProp 𝕄)
      ⊢ iprop(((owns (c : Thread nD τ) M fullShare w) -∗ wp frame (wpE (defs₀ (F := F)) noLoops (c : Thread nD τ) none) Set.univ (k ⟨⟩) Q)
        -∗ wp frame (wpE (defs₀ (F := F)) noLoops (c : Thread nD τ) none) Set.univ (.op (.store M
          (Rect.unit (s := S1x1024x512) ![0, 0, 0] S1x1024x512.size inb_S1x1024x512_S1x1024x512_0_0_0) w Finset.univ hx hm) k) Q) :=
  store_owned c w (fun y => congrArg w (emb_all (s := S1x1024x512) origin3 inb_S1x1024x512_S1x1024x512_0_0_0 y))
    (fun y hy => absurd (Finset.mem_map.mpr ⟨y, Finset.mem_univ _, emb_all (s := S1x1024x512) origin3 inb_S1x1024x512_S1x1024x512_0_0_0 y⟩) hy)

/-- Whether the program's second branch is taken. -/
abbrev waits : Prop := Scalar.cmpi .ne (Scalar.extui (Scalar.cmpi .eq (turnWord i) 0#32) : BitVec 32) 0#32 = 1#1

/-- Reading the arrived rows of the point's batch entry. -/
theorem load_arrived {hl} {α : Type} {Q : α → sProp 𝕄} {k : Vec F S1x3x512 .f32 → Prog (TpuEff nD τ sig (Elt F) Λ₀ .tc) α} :
    (haloPts c (tailOf m (left c)) : sProp 𝕄)
      ⊢ iprop((haloPts c (tailOf m (left c)) -∗ wp frame (wpE (defs₀ (F := F)) noLoops (c : Thread nD τ) none) Set.univ (k (arrived m c i)) Q)
        -∗ wp frame (wpE (defs₀ (F := F)) noLoops (c : Thread nD τ) none) Set.univ (.op (.load haloM
          (Rect.unit (s := S4x3x512) (k0_off1 i) S1x3x512.size (k0_off1_inb i)).toLoadRect hl) k) Q) := by
  rw [haloPts_view]
  iintro Hh Hk
  iapply (wp_load noLoops (c : Thread nD τ) none Set.univ (m := haloM) (S := (haloM : Memref sig .tc .vmem S4x3x512 .f32).view.set)
    (f := tailOf m (left c)) (Finset.map_subset_map.mpr (Finset.subset_univ _))) $$ Hh
  iexact Hk

variable (v2 v7 : BitVec 32) (v9 : FVec F S4x512 .f32) (v14 v35 v41 : FVec F S1x1024x512 .f32)

/-- Away from the first point the second part stores the block's own convolution and reads the arrived rows. -/
theorem part2_later (hi : ¬ waits i) (Q : _ → sProp 𝕄) :
    iprop((∃ X, owns (c : Thread nD τ) A4 fullShare X) ∗ haloPts c (tailOf m (left c))
        ∗ ((owns (c : Thread nD τ) A4 fullShare (k0_pay7 v35 v41) ∗ haloPts c (tailOf m (left c)))
          -∗ Q ⟨k0_pay9 v2 v9 v14 (arrived m c i), k0_pay10 v2 v9 v14 (arrived m c i)⟩))
      ⊢ wp frame (wpE (defs₀ (F := F)) noLoops (c : Thread nD τ) none) Set.univ
          (k0_part2 i inM (Memref.isWhole_whole _) A2 h2 A3 h3 A4 h4 sendM (Memref.isWhole_whole _) haloM (Memref.isWhole_whole _)
            cc0_scratch2 cc0_scratch3 cc0_scratch4 (turnWord i) v2 v7 v9 v14 v35 v41) Q := by
  rw [k0_part2_eq_skeleton]; unfold k0_part2_skel
  simp only [Prog.lift, Prog.bind_op, Prog.bind_ret, Prog.pure_eq_ret, dif_neg hi]
  iintro ⟨⟨%X, H4⟩, Hh, Hk⟩
  iapply (load_owned c) $$ H4; iintro H4
  iapply (store_all c (k0_pay7 v35 v41)) $$ H4
  iintro H4
  iapply (load_arrived m c i) $$ Hh; iintro Hh
  rw [wp_ret]; imodintro
  iapply Hk
  isplitl [H4] <;> iassumption

/-- At the first point it also waits for the two ends of the copies it takes part in. -/
theorem part2_first (κ : GSem nD τ sig → ℕ) (hi : waits i) (W : Waits sig Unit) (Q : _ → sProp 𝕄) :
    iprop((∃ X, owns (c : Thread nD τ) A4 fullShare X) ∗ (flying m κ c ∗ owes (c : Thread nD τ) 0 W)
        ∗ ((owns (c : Thread nD τ) A4 fullShare (k0_pay7 v35 v41) ∗ haloPts c (tailOf m (left c)) ∗ sendPts c (tailOf m c)
            ∗ semVal (at' c sent) 0 ∗ semVal (at' c came) 0 ∗ (∃ W', owes (c : Thread nD τ) 0 W'))
          -∗ Q ⟨k0_pay9 v2 v9 v14 (arrived m c i), k0_pay10 v2 v9 v14 (arrived m c i)⟩))
      ⊢ wp frame (wpE (defs₀ (F := F)) noLoops (c : Thread nD τ) none) Set.univ
          (k0_part2 i inM (Memref.isWhole_whole _) A2 h2 A3 h3 A4 h4 sendM (Memref.isWhole_whole _) haloM (Memref.isWhole_whole _)
            cc0_scratch2 cc0_scratch3 cc0_scratch4 (turnWord i) v2 v7 v9 v14 v35 v41) Q := by
  rw [k0_part2_eq_skeleton]; unfold k0_part2_skel
  simp only [Prog.lift, Prog.bind_op, Prog.bind_ret, Prog.pure_eq_ret, dif_pos hi]
  unfold flying known
  iintro ⟨⟨%X, H4⟩, ⟨⟨⟨-, #IS, #IC, -⟩, PS, PC, CS, CC⟩, HO⟩, Hk⟩
  iapply (load_owned c) $$ H4; iintro H4
  iapply (store_all c (k0_pay7 v35 v41)) $$ H4
  iintro H4
  iapply (wait_copy m κ c cc0_scratch2.sem (S := haloM) (D := sendM) rfl W) $$ [CS HO PS]
  · isplitr; · iexact IS
    isplitl [CS]; · iexact CS
    isplitl [HO] <;> iassumption
  iintro ⟨HO, Hzs, Hs⟩
  ihave Hs := (Entails.of_eq (carries_sent m c false)) $$ Hs
  iapply (wait_copy m κ c cc0_scratch3.sem (S := sendM) (D := haloM) rfl _) $$ [CC HO PC]
  · isplitr; · iexact IC
    isplitl [CC]; · iexact CC
    isplitl [HO] <;> iassumption
  iintro ⟨HO, Hzc, Hh⟩
  ihave Hh := (Entails.of_eq (carries_came m c false)) $$ Hh
  iapply (load_arrived m c i) $$ Hh; iintro Hh
  rw [wp_ret]; imodintro
  iapply Hk
  isplitl [H4]; · iexact H4
  isplitl [Hh]; · iexact Hh
  isplitl [Hs]; · iexact Hs
  isplitl [Hzs]; · iexact Hzs
  isplitl [Hzc]; · iexact Hzc
  iexists _; iexact HO

/-- A point away from the first. -/
theorem point_later (hi : ¬ k0_cond1 i = 1#1) (hw : ¬ waits i) (Q : PUnit → sProp 𝕄) :
    iprop((owns (c : Thread nD τ) A3 fullShare k ∗ owns (c : Thread nD τ) A2 fullShare x ∗ (∃ X, owns (c : Thread nD τ) A4 fullShare X))
        ∗ haloPts c (tailOf m (left c))
        ∗ (((owns (c : Thread nD τ) A3 fullShare k ∗ owns (c : Thread nD τ) A2 fullShare x
              ∗ owns (c : Thread nD τ) A4 fullShare (patched (lead c k x (arrived m c i)) (plain k x)))
            ∗ haloPts c (tailOf m (left c))) -∗ Q ⟨⟩))
      ⊢ wp frame (wpE (defs₀ (F := F)) noLoops (c : Thread nD τ) none) Set.univ
          (cc0_body i inM (Memref.isWhole_whole _) A2 h2 A3 h3 A4 h4 sendM (Memref.isWhole_whole _) haloM (Memref.isWhole_whole _)
            cc0_scratch2 cc0_scratch3 cc0_scratch4) Q := by
  rw [cc0_body_eq_skeleton]; unfold cc0_body_skel
  rw [wp_bind]
  iintro ⟨⟨H3, H2, H4⟩, Hh, Hk⟩
  iapply (part1_later c i A2 h2 A3 h3 A4 h4 k x hi)
  isplitl [H3]; · iexact H3
  isplitl [H2]; · iexact H2
  iintro ⟨H3, H2⟩
  rw [wp_bind]
  iapply (part2_later m c i A2 h2 A3 h3 A4 h4 _ _ _ _ _ _ hw)
  isplitl [H4]; · iexact H4
  isplitl [Hh]; · iexact Hh
  iintro ⟨H4, Hh⟩
  simp only [Prog.lift, Prog.bind_op, Prog.bind_ret, Prog.pure_eq_ret,
    (show k0_pay7 (k0_pay5 k x) (k0_pay6 k x) = plain k x from rfl)]
  iapply (load_owned c) $$ H4; iintro H4
  iapply (store_owned c (patched (lead c k x (arrived m c i)) (plain k x)) (patched_in _ _) (patched_out _ _)) $$ H4; iintro H4
  rw [wp_ret]; imodintro
  iapply Hk
  isplitr [Hh]
  · isplitl [H3]; · iexact H3
    isplitl [H2]; · iexact H2
    iexact H4
  iexact Hh

/-- The first point. -/
theorem point_first (κ : GSem nD τ sig → ℕ) (hi : k0_cond1 i = 1#1) (hw : waits i) (W : Waits sig Unit) (Q : PUnit → sProp 𝕄) :
    iprop((owns (c : Thread nD τ) A3 fullShare k ∗ owns (c : Thread nD τ) A2 fullShare x ∗ (∃ X, owns (c : Thread nD τ) A4 fullShare X))
        ∗ (pledge m κ c ∗ opened c ∗ levAts marks rank ∗ tailPts m c ∗ semVal (at' c tail) 0
          ∗ (∃ f, sendPts c f) ∗ (∃ f, haloPts c f) ∗ owes (c : Thread nD τ) (owesAll c) W)
        ∗ (((owns (c : Thread nD τ) A3 fullShare k ∗ owns (c : Thread nD τ) A2 fullShare x
              ∗ owns (c : Thread nD τ) A4 fullShare (patched (lead c k x (arrived m c i)) (plain k x)))
            ∗ haloPts c (tailOf m (left c)) ∗ sendPts c (tailOf m c) ∗ tailPts m c
            ∗ semVal (at' c sent) 0 ∗ semVal (at' c came) 0 ∗ semVal (at' c tail) 0 ∗ semVal (at' c bar) 0
            ∗ (∃ W', owes (c : Thread nD τ) 0 W')) -∗ Q ⟨⟩))
      ⊢ wp frame (wpE (defs₀ (F := F)) noLoops (c : Thread nD τ) none) Set.univ
          (cc0_body i inM (Memref.isWhole_whole _) A2 h2 A3 h3 A4 h4 sendM (Memref.isWhole_whole _) haloM (Memref.isWhole_whole _)
            cc0_scratch2 cc0_scratch3 cc0_scratch4) Q := by
  rw [cc0_body_eq_skeleton]; unfold cc0_body_skel
  rw [wp_bind]
  iintro ⟨⟨H3, H2, H4⟩, Hstart, Hk⟩
  iapply (part1_first m c i A2 h2 A3 h3 A4 h4 k x κ hi W)
  isplitl [H3 H2]
  · isplitl [H3] <;> iassumption
  isplitl [Hstart]; · iexact Hstart
  iintro ⟨⟨H3, H2⟩, Hf, Ht, Hzt, Hzb, ⟨%W1, HO⟩⟩
  rw [wp_bind]
  iapply (part2_first m c i A2 h2 A3 h3 A4 h4 _ _ _ _ _ _ κ hw W1)
  isplitl [H4]; · iexact H4
  isplitl [Hf HO]
  · isplitl [Hf] <;> iassumption
  iintro ⟨H4, Hh, Hs, Hzs, Hzc, HO⟩
  simp only [Prog.lift, Prog.bind_op, Prog.bind_ret, Prog.pure_eq_ret,
    (show k0_pay7 (k0_pay5 k x) (k0_pay6 k x) = plain k x from rfl)]
  iapply (load_owned c) $$ H4; iintro H4
  iapply (store_owned c (patched (lead c k x (arrived m c i)) (plain k x)) (patched_in _ _) (patched_out _ _)) $$ H4; iintro H4
  rw [wp_ret]; imodintro
  iapply Hk
  isplitl [H3 H2 H4]
  · isplitl [H3]; · iexact H3
    isplitl [H2]; · iexact H2
    iexact H4
  isplitl [Hh]; · iexact Hh
  isplitl [Hs]; · iexact Hs
  isplitl [Ht]; · iexact Ht
  isplitl [Hzs]; · iexact Hzs
  isplitl [Hzc]; · iexact Hzc
  isplitl [Hzt]; · iexact Hzt
  isplitl [Hzb]; · iexact Hzb
  iexact HO

end Run

end Cert.HaloProof

end
-- ==== Proof.Data.lean ====
/-
The pipeline's data and the body at every grid point.

What each window holds after a point, what the body keeps between points, and that the body does as the data say.
-/
module

public import proofs.«01_k».proof.Proof.Point
public import proofs.«01_k».proof.Proof.Gen.KernelIdeal.Frame

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UAll ℕ

variable (m : (ℓ : Loc nD τ sig) → Buf (Elt F) ℓ)

/-- The block of the input that point `t` works on. -/
abbrev rowsAt (c : Dev nD) (t : Fin cfg0.N) : Vec F S1x1024x512 .f32 := iblk m c 0 t
/-- The taps, the same at every point. -/
abbrev tapsAt (c : Dev nD) (t : Fin cfg0.N) : Vec F S4x512 .f32 := iblk m c 1 t
/-- The block that point `t` leaves. -/
def leftAt (c : Dev nD) (t : Fin cfg0.N) : Vec F S1x1024x512 .f32 :=
  patched (lead c (tapsAt m c t) (rowsAt m c t) (arrived m c (grid0.coords t))) (plain (tapsAt m c t) (rowsAt m c t))

/-- Before the first point: the talk still to come, and what it runs on. -/
def before (c : Dev nD) : sProp 𝕄 :=
  iprop((∃ κ, pledge m κ c) ∗ opened c ∗ levAts marks rank ∗ tailPts m c ∗ semVal (at' c tail) 0
    ∗ (∃ f, sendPts c f) ∗ (∃ f, haloPts c f))
/-- After it: the neighbour's rows are there and every cell is back at zero. -/
def after (c : Dev nD) : sProp 𝕄 :=
  iprop(haloPts c (tailOf m (left c)) ∗ (∃ f, sendPts c f)
    ∗ semVal (at' c sent) 0 ∗ semVal (at' c came) 0 ∗ semVal (at' c tail) 0 ∗ semVal (at' c bar) 0)

/-- The pipeline's data.  The input's array is read by the windows at one half of its share; the other half is the
    body's, which copies the tail rows out of the same array. -/
def pdat (c : Dev nD) : Dat τ (Elt F) Unit ℕ UAll ℕ cfg0 c where
  A w := V m c (Pipeline.arrRef spec0 w)
  after w t := match w with
    | ⟨0, _⟩ => iblk m c 0 t
    | ⟨1, _⟩ => iblk m c 1 t
    | ⟨2, _⟩ => leftAt m c t
  Φ t := if t.val = 0 then before m c else after m c
  q w := if w.val = 0 then fullShare.left else fullShare
  owed t := if t.val = 0 then owesAll c else 0

theorem inv_start (c : Dev nD) (t : Fin (cfg0.N + 1)) (h : t.val = 0) : (pdat m c).Φ t = before m c := if_pos h
theorem inv_later (c : Dev nD) (t : Fin (cfg0.N + 1)) (h : t.val ≠ 0) : (pdat m c).Φ t = after m c := if_neg h
theorem owed_start (c : Dev nD) (t : Fin (cfg0.N + 1)) (h : t.val = 0) : (pdat m c).owed t = owesAll c := if_pos h
theorem owed_later (c : Dev nD) (t : Fin (cfg0.N + 1)) (h : t.val ≠ 0) : (pdat m c).owed t = 0 := if_neg h

/-- The input's staging buffer holds its block whenever the body runs, -/
theorem found_rows (c : Dev nD) (t : Fin cfg0.N) (d) : (pdat m c).before 0 t d = iblk m c 0 t :=
  ((pdat m c).before_in_eq_fetched 0 rfl (fun _ => rfl) (fun _ _ _ => rfl) (fun _ => rfl) t d).trans rfl
/-- and the taps' buffer the taps. -/
theorem found_taps (c : Dev nD) (t : Fin cfg0.N) (d) : (pdat m c).before 1 t d = iblk m c 1 t :=
  ((pdat m c).before_in_eq_fetched 1 rfl (fun _ => rfl) (fun _ _ _ => rfl) (fun _ => rfl) t d).trans rfl

/-- What the core owes, as the pipeline keeps it, and back. -/
theorem owesAt_of (c : Dev nD) (t : Fin (cfg0.N + 1)) (O : CellTallies nD τ sig Unit) (h : (pdat m c).owed t = O) (W : Waits sig Unit) :
    (owes (c : Thread nD τ) O W : sProp 𝕄) ⊢ (pdat m c).owesAt () t := by
  unfold Dat.owesAt Pipeline.owesWithin Dat.bound
  rw [h]
  iintro HO
  iexists W
  isplitr
  · ipureintro; exact fun _ _ => Or.inl trivial
  iexact HO
theorem of_owesAt (c : Dev nD) (t : Fin (cfg0.N + 1)) (O : CellTallies nD τ sig Unit) (h : (pdat m c).owed t = O) :
    ((pdat m c).owesAt () t : sProp 𝕄) ⊢ iprop(∃ W, owes (c : Thread nD τ) O W) := by
  unfold Dat.owesAt Pipeline.owesWithin
  rw [h]
  iintro ⟨%W, -, HO⟩
  iexists W
  iexact HO

/-- Only the first point talks. -/
theorem talks : ∀ t : Fin grid0.N, k0_cond1 (grid0.coords t) = 1#1 ↔ t.val = 0 := by decide
theorem waits_first : ∀ t : Fin grid0.N, waits (grid0.coords t) ↔ t.val = 0 := by decide

/-- The body does at every point what the data say. -/
theorem body_ok (c : Dev nD) : BodyObligation (pdat m c) (defs₀ (F := F)) noLoops () Set.univ := fun t => by
  rw [bigSep_W0, bigSep_W0]
  show iprop((pdat m c).Φ t.castSucc ∗ (pdat m c).owesAt () t.castSucc
      ∗ (∃ d, owns (c : Thread nD τ) (st0_0 t) fullShare ((pdat m c).before 0 t d))
      ∗ (∃ d, owns (c : Thread nD τ) (st0_1 t) fullShare ((pdat m c).before 1 t d))
      ∗ (∃ d, owns (c : Thread nD τ) (st0_2 t) fullShare ((pdat m c).before 2 t d)))
    ⊢ wp frame (wpE (defs₀ (F := F)) noLoops (c : Thread nD τ) none) Set.univ (bodyAt0 t) fun _ =>
      iprop((pdat m c).Φ t.succ ∗ (pdat m c).owesAt () t.succ
        ∗ owns (c : Thread nD τ) (st0_0 t) fullShare (rowsAt m c t)
        ∗ owns (c : Thread nD τ) (st0_1 t) fullShare (tapsAt m c t)
        ∗ owns (c : Thread nD τ) (st0_2 t) fullShare (leftAt m c t))
  rw [inv_later m c t.succ (Nat.succ_ne_zero _)]
  simp only [found_rows, found_taps]
  by_cases ht : t.val = 0
  · rw [inv_start m c t.castSucc ht]
    unfold before after
    iintro ⟨⟨⟨%κ, HP⟩, Ho, Hl, Ht, Hv, Hs, Hh⟩, HO, ⟨%d0, H0⟩, ⟨%d1, H1⟩, ⟨%d2, H2⟩⟩
    ihave HO' := (of_owesAt m c _ _ (owed_start m c t.castSucc ht)) $$ HO
    icases HO' with ⟨%W, HO⟩
    iapply (point_first m c (grid0.coords t) _ _ _ _ _ _ (tapsAt m c t) (rowsAt m c t) κ ((talks t).2 ht) ((waits_first t).2 ht) W _)
    isplitl [H0 H1 H2]
    · isplitl [H1]; · iexact H1
      isplitl [H0]; · iexact H0
      iexists _; iexact H2
    isplitl [HP Ho Hl Ht Hv Hs Hh HO]
    · isplitl [HP]; · iexact HP
      isplitl [Ho]; · iexact Ho
      isplitl [Hl]; · iexact Hl
      isplitl [Ht]; · iexact Ht
      isplitl [Hv]; · iexact Hv
      isplitl [Hs]; · iexact Hs
      isplitl [Hh]; · iexact Hh
      iexact HO
    iintro ⟨⟨H1, H0, H2⟩, Hh, Hs, -, Z1, Z2, Z3, Z4, ⟨%W', HO⟩⟩
    isplitl [Hh Hs Z1 Z2 Z3 Z4]
    · isplitl [Hh]; · iexact Hh
      isplitl [Hs]; · iexists _; iexact Hs
      isplitl [Z1]; · iexact Z1
      isplitl [Z2]; · iexact Z2
      isplitl [Z3]; · iexact Z3
      iexact Z4
    isplitl [HO]
    · iapply (owesAt_of m c t.succ 0 (owed_later m c _ (Nat.succ_ne_zero _)) W'); iexact HO
    isplitl [H0]; · iexact H0
    isplitl [H1]; · iexact H1
    iexact H2
  · rw [inv_later m c t.castSucc ht]
    unfold after
    iintro ⟨⟨Hh, Hs, Z⟩, HO, ⟨%d0, H0⟩, ⟨%d1, H1⟩, ⟨%d2, H2⟩⟩
    ihave HO' := (of_owesAt m c _ _ (owed_later m c t.castSucc ht)) $$ HO
    icases HO' with ⟨%W, HO⟩
    iapply (point_later m c (grid0.coords t) _ _ _ _ _ _ (tapsAt m c t) (rowsAt m c t) (fun h => ht ((talks t).1 h)) (fun h => ht ((waits_first t).1 h)) _)
    isplitl [H0 H1 H2]
    · isplitl [H1]; · iexact H1
      isplitl [H0]; · iexact H0
      iexists _; iexact H2
    isplitl [Hh]; · iexact Hh
    iintro ⟨⟨H1, H0, H2⟩, Hh⟩
    isplitl [Hh Hs Z]
    · isplitl [Hh]; · iexact Hh
      isplitl [Hs]; · iexact Hs
      iexact Z
    isplitl [HO]
    · iapply (owesAt_of m c t.succ 0 (owed_later m c _ (Nat.succ_ne_zero _)) W); iexact HO
    isplitl [H0]; · iexact H0
    isplitl [H1]; · iexact H1
    iexact H2

end Cert.HaloProof

end
-- ==== Proof.Begin.lean ====
/-
What the devices start with.

The launch deals every device the invariants of the cells it touches, its own places in them, the payments it will make,
and the credit it will wait with.
-/
module

public import proofs.«01_k».proof.Proof.Data

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAll ℕ

variable (m : (ℓ : Loc nD τ sig) → Buf (Elt F) ℓ)

/-! ## The credit to wait with -/

theorem at'_iff {c d : Dev nD} {s s' : SemLoc sig} : at' c s = at' d s' ↔ c = d ∧ s = s' :=
  ⟨fun h => ⟨congrArg (fun g : GSem nD τ sig => g.1.1) h, congrArg Prod.snd h⟩, fun ⟨h, h'⟩ => by rw [h, h']⟩

theorem right_iff {c d : Dev nD} : c = right d ↔ d = left c :=
  ⟨fun h => by rw [h, left_right], fun h => by rw [h, right_left]⟩
theorem left_iff {c d : Dev nD} : c = left d ↔ d = right c :=
  ⟨fun h => by rw [h, right_left], fun h => by rw [h, left_right]⟩

theorem owed_bar (d c : Dev nD) : owesAll d (at' c bar) () = (if d = left c then 1 else 0) + (if d = right c then 1 else 0) := by
  have hr : (c = right d) = (d = left c) := propext right_iff
  have hl : (c = left d) = (d = right c) := propext left_iff
  unfold owesAll owesRight owesCopy
  simp only [Pi.add_apply, Finsupp.add_apply, tallyAt_apply, at'_iff, came_ne_bar.symm, and_false, false_and, if_false, Nat.zero_add,
    and_true, hr, hl]

theorem owed_came (d c : Dev nD) : owesAll d (at' c came) () = if d = left c then credits else 0 := by
  have hr : (c = right d) = (d = left c) := propext right_iff
  unfold owesAll owesRight owesCopy
  simp only [Pi.add_apply, Finsupp.add_apply, tallyAt_apply, at'_iff, came_ne_bar, and_false, false_and, if_false, Nat.add_zero,
    and_true, hr]

omit [FloatOps F] in
theorem dealt_bar (c : Dev nD) :
    tallyOn (at' c bar) (launchCredit (Pipeline.owing owesAll) 0 (at' c bar)) = (tallyAt (at' c bar) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1,
    if_pos (Finset.mem_univ _), if_pos (Finset.mem_univ _)]

omit [FloatOps F] in
theorem dealt_came (c : Dev nD) :
    tallyOn (at' c came) (launchCredit (Pipeline.owing owesAll) 0 (at' c came)) = (tallyAt (at' c came) () credits : CellTallies nD τ sig Unit) := by
  unfold tallyAt
  refine congrArg _ (Finsupp.ext fun u => ?_)
  cases u
  rw [Pipeline.launchCredit_owing, Finsupp.single_eq_same, Finset.sum_congr rfl fun d _ => owed_came d c,
    Finset.sum_ite_eq' Finset.univ (left c) fun _ => credits, if_pos (Finset.mem_univ _)]

omit [FloatOps F] in
/-- A device's launch credit holds what it waits with. -/
theorem dealt (c : Dev nD) :
    (Pipeline.launchCred owesAll c : sProp 𝕄) ⊢ iprop(cred (tallyAt (at' c bar) () 2) ∗ cred (tallyAt (at' c came) () credits)) := by
  unfold Pipeline.launchCred
  rw [bigSep_univ_at _ bar, dealt_bar, ← dealt_came]
  exact sep_mono_right (bigSep_elim (Finset.mem_erase.mpr ⟨came_ne_bar, Finset.mem_univ came⟩))

/-! ## The cells and the payments -/

/-- The barrier cells stand open from the launch; -/
def openCells : Finset (GSem nD τ sig) :=
  Finset.univ.map ⟨fun c : Dev nD => at' c bar, fun _ _ h => (at'_iff.mp h).1⟩

/-- a transfer's cell by the bit: where the send ends, where an arrival ends. -/
abbrev endOf (b : Bool) : SemLoc sig := if b then sent else came
theorem endOf_inj : ∀ b b' : Bool, endOf b = endOf b' → b = b'
  | true, true, _ => rfl
  | false, false, _ => rfl
  | true, false, h => absurd h sent_ne_came
  | false, true, h => absurd h came_ne_sent
/-- The transfers' cells stay shut until the kernel's own semaphores are there. -/
def shutCells : Finset (GSem nD τ sig) :=
  Finset.univ.map ⟨fun cb : Dev nD × Bool => at' cb.1 (endOf cb.2), fun _ _ h =>
    Prod.ext (at'_iff.mp h).1 (endOf_inj _ _ (at'_iff.mp h).2)⟩

theorem apart : Disjoint openCells shutCells := by
  rw [Finset.disjoint_left]
  intro g h h'
  obtain ⟨c, -, rfl⟩ := Finset.mem_map.mp h
  obtain ⟨⟨d, b⟩, -, e⟩ := Finset.mem_map.mp h'
  have e' := (at'_iff.mp e).2
  cases b
  · exact came_ne_bar e'
  · exact sent_ne_bar e'

/-- The payments into a device's cells: two at the barrier, one at either end of a transfer. -/
abbrev payOf (cj : Dev nD × Fin 4) : GSem nD τ sig × ℕ × Bool := match cj.2 with
  | 0 => (at' cj.1 bar, 0, true)
  | 1 => (at' cj.1 bar, 0, false)
  | 2 => (at' cj.1 sent, 0, false)
  | 3 => (at' cj.1 came, 0, false)
theorem payOf_inj : Function.Injective payOf := by
  rintro ⟨c, j⟩ ⟨d, k⟩ h
  have hg := congrArg Prod.fst h
  have hb := congrArg (fun x => x.2.2) h
  fin_cases j <;> fin_cases k <;> first
    | exact Prod.ext (at'_iff.mp hg).1 rfl
    | exact absurd (show true = false from hb) (by decide)
    | exact absurd (show false = true from hb) (by decide)
    | exact absurd (at'_iff.mp hg).2 (by decide)
def payments : Finset (GSem nD τ sig × ℕ × Bool) := Finset.univ.map ⟨payOf, payOf_inj⟩

/-- The neighbours' part of the launch element. -/
def talk₀ : UTalk := launchOf openCells shutCells payments

/-- The payments into `c`'s cells. -/
def incoming (c : Dev nD) : sProp 𝕄 :=
  iprop(dutyTok ETalk (at' c bar) 0 true ∗ dutyTok ETalk (at' c bar) 0 false ∗ dutyTok ETalk (at' c sent) 0 false
    ∗ dutyTok ETalk (at' c came) 0 false)

omit [FloatOps F] in
theorem payments_eq : bigSep payments (fun x => (dutyTok ETalk x.1 x.2.1 x.2.2 : sProp 𝕄)) = bigSep Finset.univ fun c : Dev nD => incoming c := by
  unfold payments
  rw [bigSep_map, bigSep_univ_prod]
  refine bigSep_congr fun c _ => ?_
  rw [bigSep_univ_eq_bigSepL [(0 : Fin 4), 1, 2, 3] (by decide) (by decide)]
  rfl

omit [FloatOps F] in
/-- Every payment goes to the device that makes it. -/
theorem handed_out : (bigSep Finset.univ fun c : Dev nD => (incoming c : sProp 𝕄)) ⊢ bigSep Finset.univ fun c : Dev nD => purse c := by
  unfold incoming purse
  simp only [bigSep_sep']
  rw [bigSep_univ_equiv turn.symm (fun c : Dev nD => (dutyTok ETalk (at' c bar) 0 true : sProp 𝕄)),
    bigSep_univ_equiv turn (fun c : Dev nD => (dutyTok ETalk (at' c bar) 0 false : sProp 𝕄)),
    bigSep_univ_equiv turn (fun c : Dev nD => (dutyTok ETalk (at' c came) 0 false : sProp 𝕄))]
  exact BI.Entails.refl _

/-- What everybody may look up. -/
def lookup (κ : GSem nD τ sig → ℕ) : sProp 𝕄 :=
  iprop((bigSep (openCells ∪ shutCells) fun g => cellInv ETalk (talk m) (κ g) g) ∗ bigSep openCells fun g => reached ETalk g 0)
instance lookup_persistent (κ : GSem nD τ sig → ℕ) : BI.Persistent (lookup m κ) := by unfold lookup; infer_instance

theorem mem_open (c : Dev nD) : at' c bar ∈ openCells := Finset.mem_map.mpr ⟨c, Finset.mem_univ _, rfl⟩
theorem mem_sent (c : Dev nD) : at' c sent ∈ shutCells := Finset.mem_map.mpr ⟨(c, true), Finset.mem_univ _, rfl⟩
theorem mem_came (c : Dev nD) : at' c came ∈ shutCells := Finset.mem_map.mpr ⟨(c, false), Finset.mem_univ _, rfl⟩

omit [FloatOps F] in
theorem look_inv (κ : GSem nD τ sig → ℕ) {g : GSem nD τ sig} (h : g ∈ openCells ∪ shutCells) :
    lookup m κ ⊢ cellInv ETalk (talk m) (κ g) g := by
  unfold lookup
  iintro ⟨HI, -⟩
  iapply (show (bigSep (openCells ∪ shutCells) fun g => (cellInv ETalk (talk m) (κ g) g : sProp 𝕄)) ⊢ cellInv ETalk (talk m) (κ g) g from
    bigSep_elim h)
  iexact HI
omit [FloatOps F] in
theorem look_open (κ : GSem nD τ sig → ℕ) (c : Dev nD) : lookup m κ ⊢ reached ETalk (at' c bar) 0 := by
  unfold lookup
  iintro ⟨-, HR⟩
  iapply (show (bigSep openCells fun g => (reached ETalk g 0 : sProp 𝕄)) ⊢ reached ETalk (at' c bar) 0 from bigSep_elim (mem_open c))
  iexact HR

/-- What is a device's alone. -/
def share (c : Dev nD) : sProp 𝕄 :=
  iprop(atPos ETalk (at' c bar) 0 ∅ 0 ∗ purse c ∗ (openTok ETalk (at' c sent) ∗ openTok ETalk (at' c came)))

/-- A device ready to start, but for its transfers' cells. -/
def ready (c : Dev nD) : sProp 𝕄 :=
  iprop(∃ κ, pledge m κ c ∗ openTok ETalk (at' c sent) ∗ openTok ETalk (at' c came))

theorem make_ready (κ : GSem nD τ sig → ℕ) (c : Dev nD) :
    iprop(lookup m κ ∗ (share c ∗ cred (tallyAt (at' c bar) () 2) ∗ cred (tallyAt (at' c came) () credits))) ⊢ ready m c := by
  unfold share ready pledge known
  iintro ⟨#L, ⟨PB, Pu, OS, OC⟩, CB, CC⟩
  iexists κ
  isplitr [OS OC]
  · isplitr
    · isplitr; · iapply (look_inv m κ (Finset.mem_union_left _ (mem_open c))); iexact L
      isplitr; · iapply (look_inv m κ (Finset.mem_union_right _ (mem_sent c))); iexact L
      isplitr; · iapply (look_inv m κ (Finset.mem_union_right _ (mem_came c))); iexact L
      isplitr; · iapply (look_inv m κ (Finset.mem_union_left _ (mem_open (left c)))); iexact L
      isplitr; · iapply (look_inv m κ (Finset.mem_union_left _ (mem_open (right c)))); iexact L
      iapply (look_inv m κ (Finset.mem_union_right _ (mem_came (right c)))); iexact L
    isplitr; · iapply (look_open m κ (left c)); iexact L
    isplitr; · iapply (look_open m κ (right c)); iexact L
    isplitl [PB]; · iexact PB
    isplitl [Pu]; · iexact Pu
    isplitl [CB]; · iexact CB
    iexact CC
  isplitl [OS]; · iexact OS
  iexact OC

/-- With the kernel's own semaphores at zero the transfers' cells open. -/
theorem open_cells (c : Dev nD) :
    iprop(ready m c ∗ semVal (at' c sent) 0 ∗ semVal (at' c came) 0) ⊢ |={Set.univ}=> iprop((∃ κ, pledge m κ c) ∗ opened c) := by
  unfold ready pledge known opened
  iintro ⟨⟨%κ, ⟨⟨#IB, #IS, #IC, #IL, #IR, #IRC⟩, Hp⟩, OS, OC⟩, VS, VC⟩
  imod (Rounds.cell_open ETalk (talk m) (Set.mem_univ (κ (at' c sent)))) $$ [OS VS] with ⟨PS, RS⟩
  · isplitr; · iexact IS
    isplitl [OS] <;> iassumption
  imod (Rounds.cell_open ETalk (talk m) (Set.mem_univ (κ (at' c came)))) $$ [OC VC] with ⟨PC, RC⟩
  · isplitr; · iexact IC
    isplitl [OC] <;> iassumption
  imodintro
  isplitl [Hp]
  · iexists κ
    isplitr
    · isplitr; · iexact IB
      isplitr; · iexact IS
      isplitr; · iexact IC
      isplitr; · iexact IL
      isplitr; · iexact IR
      iexact IRC
    iexact Hp
  isplitl [RS]; · iexact RS
  isplitl [RC]; · iexact RC
  isplitl [PS]; · iexact PS
  iexact PC

omit [FloatOps F] in
/-- A record that all may keep goes to every one of a family. -/
theorem spread {R : sProp 𝕄} [BI.Persistent R] {A B : Dev nD → sProp 𝕄} (h : ∀ c, iprop(R ∗ A c) ⊢ B c) :
    iprop(R ∗ bigSep Finset.univ A) ⊢ bigSep Finset.univ B := by
  refine (sep_mono_left (BI.bigSep_of_persistent (Finset.univ : Finset (Dev nD)) R)).trans ?_
  rw [← bigSep_sep']
  exact bigSep_mono fun c _ => h c

omit [FloatOps F] in
/-- The cells' record is made and dealt: from the barrier semaphores at zero and the launch element. -/
theorem deal :
    iprop((bigSep Finset.univ fun c : Dev nD => (semVal (at' c bar) 0 : sProp 𝕄)) ∗ BI.own (ETalk talk₀))
      ⊢ |={Set.univ}=> iprop(∃ κ, lookup m κ ∗ bigSep Finset.univ fun c : Dev nD => share c) := by
  have hopen (Φ : GSem nD τ sig → sProp 𝕄) : bigSep openCells Φ = bigSep Finset.univ fun c : Dev nD => Φ (at' c bar) := by
    unfold openCells; rw [bigSep_map]; rfl
  have hshut (Φ : GSem nD τ sig → sProp 𝕄) :
      bigSep shutCells Φ = bigSep Finset.univ fun c : Dev nD => iprop(Φ (at' c sent) ∗ Φ (at' c came)) := by
    unfold shutCells
    rw [bigSep_map, bigSep_univ_prod]
    refine bigSep_congr fun c _ => ?_
    rw [bigSep_univ_eq_bigSepL [true, false] (by decide) (by decide)]
    rfl
  unfold talk₀
  rw [← hopen (fun g => semVal g 0)]
  refine (Rounds.fund_launch ETalk (talk m) apart (fun _ _ h => h) payments).trans (BI.fupd_mono ?_)
  unfold lookup share
  simp only [bigSep_sep']
  rw [payments_eq, hshut, hopen (fun g => atPos ETalk g 0 ∅ 0), bigSep_sep']
  iintro ⟨%κ, -, HI, HR, HP, HO, HT⟩
  iexists κ
  isplitl [HI HR]
  · isplitl [HI] <;> iassumption
  isplitl [HP]; · iexact HP
  isplitl [HT]; · iapply (handed_out (F := F)); iexact HT
  iexact HO

end Cert.HaloProof

end
-- ==== Proof.Run.lean ====
/-
The run of the four devices.

The pipeline's region is entered with everything the launch deals and left with the result written; from this the library
concludes what every final memory holds.
-/
module

public import proofs.«01_k».proof.Proof.Begin

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UAll ℕ

variable (m : (ℓ : Loc nD τ sig) → Buf (Elt F) ℓ) (ρ : Dev nD → PrngReg)

/-! ## The region -/

abbrev adm : (p : Fin 1) → (pcfgs (F := F) p).Adm := fun p => (cfgs p).toPCfg_adm
def pdats : (p : Fin 1) → (c : Dev nD) → Dat τ (Elt F) Unit ℕ UAll ℕ (Pipeline.pin (pcfgs (F := F)) adm p) c
  | 0 => pdat m

/-- The kernel's own semaphores. -/
abbrev osem : Fin 3 → SemLoc sig := fun | 0 => sent | 1 => came | 2 => tail

/-- A whole buffer of device `c`. -/
abbrev pt (c : Dev nD) (b : Ref sig .tc) (q : PosShare TreeShare) (f : Buf (Elt F) ((c : Thread nD τ).loc b)) : sProp 𝕄 :=
  ((c : Thread nD τ).loc b) ↦{q} f

/-- What the result array ends with. -/
def result (c : Dev nD) : Buf (Elt F) ((c : Thread nD τ).loc main_v1) := (pdat m c).arrAt 2 cfg0.N

theorem osems_eq (c : Dev nD) :
    (Pipeline.ownSems0 (Ix := Unit) (Name := ℕ) (U := UAll) (Lvl := ℕ) (Val := Elt F) (τ := τ) osem c : sProp 𝕄)
      = iprop(semVal (at' c sent) 0 ∗ semVal (at' c came) 0 ∗ semVal (at' c tail) 0) := by
  rw [Pipeline.ownSems0_eq_of_list c osem [0, 1, 2] (by decide) (by decide)]; rfl

theorem usems_eq (c : Dev nD) : (unscopedSems0 c : sProp 𝕄) = semVal (at' c bar) 0 := by
  unfold unscopedSems0
  rw [bigSep_eq_bigSepL_of_eq [bar] (by decide) (by decide)]
  rfl

theorem bufs_eq (c : Dev nD) : (unscopedBufs c (fun b => m ((c : Thread nD τ).loc b)) : sProp 𝕄)
    = iprop(pt c main_arg0 fullShare (m ((c : Thread nD τ).loc main_arg0)) ∗ pt c main_arg1 fullShare (m ((c : Thread nD τ).loc main_arg1))
      ∗ pt c main_v1 fullShare (m ((c : Thread nD τ).loc main_v1))) := by
  unfold unscopedBufs
  rw [bigSep_eq_bigSepL_of_eq [main_arg0, main_arg1, main_v1] (by decide) (by decide)]
  rfl

/-- The windows' arrays: half of the input's share, the taps and the result whole. -/
theorem arrays_eq (c : Dev nD) (A : (w : Fin cfg0.W) → Buf (Elt F) ((cfg0.win w).arr.view.loc (c : Thread nD τ))) :
    ((pdat m c).arrays A : sProp 𝕄)
      = iprop(pt c main_arg0 fullShare.left (A 0) ∗ pt c main_arg1 fullShare (A 1) ∗ pt c main_v1 fullShare (A 2)) := by
  unfold Dat.arrays
  rw [bigSep_W0]
  show iprop((((cfg0.win 0).arr.view.loc (c : Thread nD τ)) ↦[(cfg0.win 0).arr.view.set]{fullShare.left} A 0)
    ∗ (((cfg0.win 1).arr.view.loc (c : Thread nD τ)) ↦[(cfg0.win 1).arr.view.set]{fullShare} A 1)
    ∗ (((cfg0.win 2).arr.view.loc (c : Thread nD τ)) ↦[(cfg0.win 2).arr.view.set]{fullShare} A 2)) = _
  rw [show (cfg0.win 0).arr.view.set = Finset.univ from View.set_whole _, show (cfg0.win 1).arr.view.set = Finset.univ from View.set_whole _,
    show (cfg0.win 2).arr.view.set = Finset.univ from View.set_whole _]

theorem no_window (Φ : Fin 0 → sProp 𝕄) : bigSep Finset.univ Φ = (BI.emp : sProp 𝕄) := bigSep_univ_eq_bigSepL [] (by decide) (by decide) Φ
theorem no_tables (c : Dev nD) (q) (pf) :
    (Pipeline.prefHeld (Ix := Unit) (Name := ℕ) (U := UAll) (Lvl := ℕ) (Val := Elt F) (pcfgs (F := F) 0).pre c q pf : sProp 𝕄) = BI.emp :=
  no_window _

theorem own_facts : Pipeline.OwnSemFacts spec0 osem := by decide
theorem staging_ne : ∀ (w : Fin cfg0.W) (s : Fin (cfg0.win w).nbuf), SemLoc.dma ((cfg0.win w).sem s) ≠ came := by decide
theorem last_ne : (Fin.last cfg0.N).val ≠ 0 := by decide
/-- The inputs' arrays are never written. -/
theorem input_kept (c : Dev nD) (n : ℕ) : (pdat m c).arrAt 0 n = m ((c : Thread nD τ).loc main_arg0) := (pdat m c).arrAt_in 0 rfl n
theorem taps_kept (c : Dev nD) (n : ℕ) : (pdat m c).arrAt 1 n = m ((c : Thread nD τ).loc main_arg1) := (pdat m c).arrAt_in 1 rfl n

/-- The input's array is a half for the windows and, of the other half, the tail rows for the body. -/
theorem input_split (c : Dev nD) :
    (pt c main_arg0 fullShare (m ((c : Thread nD τ).loc main_arg0)) : sProp 𝕄)
      ⊢ iprop(pt c main_arg0 fullShare.left (m ((c : Thread nD τ).loc main_arg0)) ∗ tailPts m c) := by
  refine (pointsTo_share (PosShare.mem_left_op_right fullShare)).1.trans (sep_mono_right ?_)
  unfold tailPts
  refine (pointsTo_split_subset (Finset.subset_univ (tailM : Memref sig .tc .hbm S4x3x512 .f32).view.set)).1.trans ?_
  iintro ⟨H, -⟩
  iexact H

/-- Waiting on a staging cell is always allowed. -/
theorem stage_waits (c : Dev nD) :
    (levAts marks rank : sProp 𝕄) ⊢ Pipeline.cellsWaits (Pipeline.pin (pcfgs (F := F)) adm) (pdats m) () 0 c :=
  Pipeline.cellsWaits_intro _ (pdats m) () 0 c fun w s t =>
    mayWait_own c _ (staging_ne w s) _ (by
      by_cases h : t.val = 0
      · exact .inl (owed_start m c t h)
      · exact .inr (.inr (owed_later m c t h)))

/-- The region. -/
def region : Pipeline.RegionSeg (pcfgs (F := F)) adm (pdats m) () defs₀ noLoops marks rank 0 where
  win := winFacts0.to₀
  block_pos := block_pos0
  stage_whole := stage_whole0
  K := Fin 3
  osem := osem
  ho := own_facts
  hbody c := (body_ok m c).loose
  hwaits := stage_waits m
  pre c := iprop(unscopedBufs c (fun b => m ((c : Thread nD τ).loc b)) ∗ ready m c ∗ owes (c : Thread nD τ) (owesAll c) ∅)
  post c := iprop((pt c main_arg0 fullShare.left (m ((c : Thread nD τ).loc main_arg0)) ∗ pt c main_arg1 fullShare (m ((c : Thread nD τ).loc main_arg1))
      ∗ pt c main_v1 fullShare (result m c) ∗ semVal (at' c bar) 0)
    ∗ ∃ W, owes (c : Thread nD τ) (0 : CellTallies nD τ sig Unit) W)
  X c := iprop((∃ κ, pledge m κ c) ∗ opened c ∗ levAts marks rank ∗ tailPts m c ∗ semVal (at' c tail) 0)
  Y c := semVal (at' c bar) 0
  Z c := iprop(emp)
  hentry c := by
    rw [show (pdats m 0 c) = pdat m c from rfl, arrays_eq, bufs_eq, osems_eq, no_tables]
    iintro ⟨⟨⟨Hx, Hk, Hr⟩, Hready, HO⟩, ⟨VS, VC, VT⟩, Hl⟩
    imod (open_cells m c) $$ [Hready VS VC] with ⟨HP, Hop⟩
    · isplitl [Hready]; · iexact Hready
      isplitl [VS] <;> iassumption
    ihave Hx2 := (input_split m c) $$ Hx
    icases Hx2 with ⟨Hx, Ht⟩
    imodintro
    isplitl [Hx Hk Hr]
    · isplitl [Hx]; · iexact Hx
      isplitl [Hk]; · iexact Hk
      iexact Hr
    isplitr; · iempintro
    isplitl [HO]; · iapply (owesAt_of m c 0 (owesAll c) (owed_start m c 0 rfl) ∅); iexact HO
    isplitl [HP Hop Hl Ht VT]
    · isplitl [HP]; · iexact HP
      isplitl [Hop]; · iexact Hop
      isplitl [Hl]; · iexact Hl
      isplitl [Ht] <;> iassumption
    iempintro
  hin c := by
    rw [show (pdats m 0 c).Φ 0 = before m c from inv_start m c 0 rfl, show Pipeline.scopedRest _ c = _ from scopedRest0_eq c]
    unfold before sendPts haloPts
    iintro ⟨⟨HP, Hop, Hl, Ht, VT⟩, -, Hs, Hh⟩
    isplitl [HP]; · iexact HP
    isplitl [Hop]; · iexact Hop
    isplitl [Hl]; · iexact Hl
    isplitl [Ht]; · iexact Ht
    isplitl [VT]; · iexact VT
    isplitl [Hs] <;> iassumption
  hout c := by
    rw [show (pdats m 0 c).Φ (Fin.last _) = after m c from inv_later m c _ last_ne, osems_eq,
      show Pipeline.scopedRest _ c = _ from scopedRest0_eq c]
    unfold after sendPts haloPts
    iintro ⟨Hh, Hs, VS, VC, VT, VB⟩
    isplitl [VB]; · iexact VB
    isplitl [VS VC VT]
    · isplitl [VS]; · iexact VS
      isplitl [VC] <;> iassumption
    isplitl [Hs]; · iexact Hs
    iexists _; iexact Hh
  hexit c := by
    rw [show (pdats m 0 c) = pdat m c from rfl, arrays_eq, input_kept, taps_kept]
    unfold result
    iintro ⟨⟨Hx, Hk, Hr⟩, HO, VB, -⟩
    imodintro
    isplitr [HO]
    · isplitl [Hx]; · iexact Hx
      isplitl [Hk]; · iexact Hk
      isplitl [Hr] <;> iassumption
    iapply (of_owesAt m c _ 0 (owed_later m c _ last_ne)); iexact HO

/-! ## The launch -/

/-- The launch element: the pipeline's, the neighbours', and no counter. -/
def u₀ : UAll :=
  (initOf (Pipeline.cells (Pipeline.pin (pcfgs (F := F)) adm) cellOf_inj) (Pipeline.launchToks (Pipeline.pin (pcfgs (F := F)) adm) cellOf_inj),
    (talk₀, (1 : Counters)))

/-- The neighbours' element waits with device 0 until all barrier semaphores are at hand. -/
def kept (c : Dev nD) : sProp 𝕄 := if c = 0 then BI.own (ETalk talk₀) else iprop(emp)

theorem keep : (BI.own (ETalk talk₀) : sProp 𝕄) ⊢ bigSep Finset.univ fun c : Dev nD => kept c := by
  rw [bigSep_univ_eq_bigSepL [(0 : Dev nD), 1, 2, 3] (by decide) (by decide)]
  show _ ⊢ iprop(BI.own (ETalk talk₀) ∗ emp ∗ emp ∗ emp)
  iintro H
  isplitl [H]; · iexact H
  isplitr; · iempintro
  isplitr <;> iempintro

theorem unkeep : (bigSep Finset.univ fun c : Dev nD => (kept c : sProp 𝕄)) ⊢ BI.own (ETalk talk₀) :=
  bigSep_elim (Finset.mem_univ (0 : Dev nD))

/-- The launch element in its two parts. -/
theorem launch_split :
    (ownU (u₀ (F := F)) : sProp 𝕄) ⊢ iprop(BI.own (EPipe (initOf (Pipeline.cells (Pipeline.pin (pcfgs (F := F)) adm) cellOf_inj)
      (Pipeline.launchToks (Pipeline.pin (pcfgs (F := F)) adm) cellOf_inj))) ∗ BI.own (ETalk talk₀)) := by
  unfold u₀
  refine (ownU_pair _ _).trans (sep_mono_right ?_)
  rfl

/-- Everything a device starts from. -/
theorem start_all :
    iprop((bigSep Finset.univ fun c : Dev nD => iprop(unscopedBufs c (fun b => m ((c : Thread nD τ).loc b)) ∗ unscopedSems0 c
          ∗ owes (c : Thread nD τ) (owesAll c) ∅ ∗ Pipeline.launchCred owesAll c ∗ prngReg c (ρ c) ∗ kept c)) ∗ levAts marks rank)
      ⊢ (|={Set.univ}=> bigSep Finset.univ (region m).pre : sProp 𝕄) := by
  have h (c : Dev nD) : iprop(unscopedBufs c (fun b => m ((c : Thread nD τ).loc b)) ∗ unscopedSems0 c
        ∗ owes (c : Thread nD τ) (owesAll c) ∅ ∗ Pipeline.launchCred owesAll c ∗ prngReg c (ρ c) ∗ kept c)
      ⊢ (iprop((semVal (at' c bar) 0 ∗ kept c) ∗ (cred (tallyAt (at' c bar) () 2) ∗ cred (tallyAt (at' c came) () credits))
          ∗ (unscopedBufs c (fun b => m ((c : Thread nD τ).loc b)) ∗ owes (c : Thread nD τ) (owesAll c) ∅)) : sProp 𝕄) := by
    rw [usems_eq]
    iintro ⟨HB, HS, HO, HC, -, HK⟩
    isplitl [HS HK]
    · isplitl [HS] <;> iassumption
    isplitl [HC]; · iapply (dealt (F := F) c); iexact HC
    isplitl [HB] <;> iassumption
  have h' (κ : GSem nD τ sig → ℕ) (c : Dev nD) : iprop(lookup m κ ∗ (share c ∗ (cred (tallyAt (at' c bar) () 2) ∗ cred (tallyAt (at' c came) () credits))
          ∗ (unscopedBufs c (fun b => m ((c : Thread nD τ).loc b)) ∗ owes (c : Thread nD τ) (owesAll c) ∅)))
      ⊢ ((region m).pre c : sProp 𝕄) := by
    show _ ⊢ iprop(unscopedBufs c (fun b => m ((c : Thread nD τ).loc b)) ∗ ready m c ∗ owes (c : Thread nD τ) (owesAll c) ∅)
    iintro ⟨HL, HS, HC, HB, HO⟩
    isplitl [HB]; · iexact HB
    isplitr [HO]
    · iapply (make_ready m κ c)
      isplitl [HL]; · iexact HL
      isplitl [HS] <;> iassumption
    iexact HO
  refine (sep_mono_left (bigSep_mono fun c _ => h c)).trans ?_
  rw [bigSep_sep', bigSep_sep']
  iintro ⟨⟨⟨HS, HK⟩, HR⟩, -⟩
  ihave HE := (unkeep (F := F)) $$ HK
  imod (deal m) $$ [HS HE] with ⟨%κ, HL, HT⟩
  · isplitl [HS] <;> iassumption
  imodintro
  iapply (spread (h' κ))
  isplitl [HL]; · iexact HL
  rw [bigSep_sep' Finset.univ (fun c : Dev nD => share c)]
  isplitl [HT] <;> iassumption

/-! ## The run -/

-- the kit's implicit arguments are found by unfolding plain definitions in the types of metavariables
set_option backward.isDefEq.respectTransparency.types false in
/-- Whatever the floats, from any memory with all counters at zero the four devices run to their end; both arguments are
    then as they were, the result array holds `result`, and every counter is back at zero. -/
theorem run_all : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = result m c) ∧ r.2.sem = fun _ => 0) :=
  Pipeline.θ_run_regions_kit_sems (pcfgs (F := F)) adm (pdats m) () cellOf_inj EPipe defs₀ noLoops marks rank m ρ main [.region (region m)]
    (fun c Q => by rw [main_segs adm (pdats m) () noLoops marks rank (region m) c])
    (by simp only [Pipeline.Seg.pipes_region, Pipeline.Seg.pipes_nil]; decide)
    (O₀ := owesAll) (hL := marks_other) (G := kept) (u₀ := u₀)
    (hu₀ := by
      refine (launch_split (F := F)).trans ((sep_mono_right (keep (F := F))).trans ?_)
      iintro H
      imodintro
      iexact H)
    (T₀ := (region m).pre)
    (Tₙ := fun c => iprop(pt c main_arg0 fullShare.left (m ((c : Thread nD τ).loc main_arg0)) ∗ pt c main_arg1 fullShare (m ((c : Thread nD τ).loc main_arg1))
      ∗ pt c main_v1 fullShare (result m c) ∗ semVal (at' c bar) 0))
    (hch := ⟨fun c => .rfl, fun c => .rfl⟩)
    (hinit := start_all m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v1) = result m c) ∧ s.sem (at' c bar) = 0)
    (hfin := fun c s' => by
      iintro ⟨⟨Hx, Hk, Hr, Hb⟩, HSI⟩
      icombine HSI Hx gives %hx
      icombine HSI Hk gives %hk
      icombine HSI Hr gives %hr
      icombine HSI Hb gives %hb
      imodintro
      isplitr
      · ipureintro
        exact ⟨⟨Buf.eq_of_forall_mem_univ hx, Buf.eq_of_forall_mem_univ hk, Buf.eq_of_forall_mem_univ hr⟩, hb⟩
      iexact HSI)
    (hQ := fun s h hs => ⟨fun c => (h c).1, sem_eq_zero hs fun c sm hsm => by
      obtain rfl : sm = bar := by revert sm; decide
      exact (h c).2⟩)

end Cert.HaloProof

end
-- ==== Proof.Same.lean ====
/-
The kernel read at bit patterns and the kernel read at extended reals are one program text.
-/
module

public import proofs.«01_k».proof.Proof.Gen.Kernel
public import proofs.«01_k».proof.Proof.Run

@[expose] public section

noncomputable section

namespace Cert.HaloProof

open Idealize.ShloMosaic Idealize.ShloMosaic.TcCoe Idealize.SL.Sem

attribute [local instance] Cert.Kernel.Gen.facts

variable {F : FTy → Type} [FloatOps F]

/-- The bodies agree label by label. -/
theorem same_bodies : (Cert.Kernel.defs₀ (F := F)) = (Cert.KernelIdeal.defs₀ (F := F)) := by
  refine congrArg Defs.onTc (funext fun l => funext fun a => ?_)
  match l, a with
  | 0, (t, s) => rfl

theorem same_defs : (Cert.Kernel.defs (F := F)) = (Cert.KernelIdeal.defs (F := F)) := congrArg (Pipeline.defs Cert.KernelIdeal.pcfgs) same_bodies

open Cert.Kernel in
/-- So the first also runs, keeps its arguments and leaves no counter. -/
theorem kernel_run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  rw [same_defs]
  exact (θ_run (Cert.KernelIdeal.defs (F := F)) _ _).mono (fun _ h => ⟨fun c => ⟨(h.1 c).1, (h.1 c).2.1⟩, h.2⟩) (run_all (F := F) m ρ)

end Cert.HaloProof

end
-- ==== Proof.Formula.lean ====
/-
The mathematics that both programs compute, and how their operations read at one index.

An output element is a swish of four products: four consecutive samples of the signal, three zeros in front of it, each
times its tap.
-/
module

public import Idealize.ShloMosaic.Lib.IdealHost
public import Idealize.ShloMosaic.Lib.Pipeline.Value

@[expose] public section

noncomputable section

namespace Cert.HaloProof

open Idealize.ShloMosaic Idealize.ShloMosaic.ValueIdx

/-! ## The formula -/

/-- The activation. -/
def swish (a : EReal) : EReal := Ideal.div a (1 + Ideal.exp (-a))

theorem exp_nonneg (x : EReal) : 0 ≤ Ideal.exp x := by
  unfold Ideal.exp
  split
  · exact le_rfl
  · exact le_top
  · exact EReal.coe_nonneg.mpr (Real.exp_pos _).le

theorem denom_ne_zero (a : EReal) : 1 + Ideal.exp a ≠ 0 := fun e => by
  have h : (1 : EReal) ≤ 1 + Ideal.exp a := le_add_of_nonneg_right (exp_nonneg a)
  rw [e] at h
  exact absurd h (by simp)

/-- A product with the sigmoid is the swish. -/
theorem swish_eq_mul (a : EReal) : a * Ideal.div 1 (1 + Ideal.exp (0 - a)) = swish a := by
  rw [zero_sub, Ideal.mul_one_div (denom_ne_zero _)]; rfl

/-- The four products that start at sample `n`. -/
def mix (s : ℕ → EReal) (k : (⟨2, ![4, 512]⟩ : Shape).Idx → EReal) (n : ℕ) (q : Fin 512) : EReal :=
  s n * k (ix2 0 q) + s (n + 1) * k (ix2 1 q) + s (n + 2) * k (ix2 2 q) + s (n + 3) * k (ix2 3 q)

/-- One channel of the whole signal, three zeros in front. -/
def padded (X : (⟨3, ![4, 4096, 512]⟩ : Shape).Idx → EReal) (b : Fin 4) (q : Fin 512) (n : ℕ) : EReal :=
  if h : 3 ≤ n ∧ n < 4099 then X (ix3 b ⟨n - 3, by omega⟩ q) else 0

/-- The whole output. -/
def answer (X : (⟨3, ![4, 4096, 512]⟩ : Shape).Idx → EReal) (k : (⟨2, ![4, 512]⟩ : Shape).Idx → EReal) :
    (⟨3, ![4, 4096, 512]⟩ : Shape).Idx → EReal :=
  fun i => swish (mix (padded X (i 0) (i 2)) k (i 1).val (i 2))

theorem padded_lt (X : (⟨3, ![4, 4096, 512]⟩ : Shape).Idx → EReal) (b : Fin 4) (q : Fin 512) (n : ℕ) (h : n < 3) : padded X b q n = 0 :=
  dif_neg fun h' => by omega
theorem padded_add (X : (⟨3, ![4, 4096, 512]⟩ : Shape).Idx → EReal) (b : Fin 4) (q : Fin 512) (r : Fin 4096) (n : ℕ) (h : n = r.val + 3) :
    padded X b q n = X (ix3 b r q) := by
  subst h
  have hr := r.isLt
  unfold padded
  rw [dif_pos (show 3 ≤ r.val + 3 ∧ r.val + 3 < 4099 by omega)]
  exact congrArg (fun z => X (ix3 b z q)) (Fin.ext (by simp))

/-! ## Operations at an index -/

section Reads
variable {α : Type}

/-- One tap as a flat row. -/
theorem tap_row (t : ℕ) (ht : t < 4) (k : (⟨2, ![4, 512]⟩ : Shape).Idx → α) (h0 : (⟨2, ![4, 512]⟩ : Shape).Slices ![t, 0] ⟨2, ![1, 512]⟩)
    (h1 : (⟨2, ![1, 512]⟩ : Shape).ShapeCasts ⟨1, ![512]⟩) (j : (⟨1, ![512]⟩ : Shape).Idx) :
    shapeCast ⟨1, ![512]⟩ (extractStridedSlice ⟨2, ![1, 512]⟩ ![t, 0] k h0) h1 j = k (ix2 ⟨t, ht⟩ (j 0)) := by
  rw [shapeCast_apply _ h1 j (ix2 (0 : Fin 1) (j 0)) (by rw [Shape.rowMajor_val_two, Shape.rowMajor_val_one]; simp)]
  exact extractStridedSlice_apply _ k h0 _ _ fun a => by fin_cases a <;> simp

/-- One tap spread over a block of rows. -/
theorem tap_block (R t : ℕ) (ht : t < 4) (k : (⟨2, ![4, 512]⟩ : Shape).Idx → α) (h0 : (⟨2, ![4, 512]⟩ : Shape).Slices ![t, 0] ⟨2, ![1, 512]⟩)
    (h1 : (⟨2, ![1, 512]⟩ : Shape).ShapeCasts ⟨1, ![512]⟩) (h2 : (⟨1, ![512]⟩ : Shape).ShapeCasts ⟨3, ![1, 1, 512]⟩)
    (h3 : (⟨3, ![1, 1, 512]⟩ : Shape).Broadcasts ⟨3, ![1, R, 512]⟩) (j : (⟨3, ![1, R, 512]⟩ : Shape).Idx) :
    broadcastTo ⟨3, ![1, R, 512]⟩ (shapeCast ⟨3, ![1, 1, 512]⟩ (shapeCast ⟨1, ![512]⟩ (extractStridedSlice ⟨2, ![1, 512]⟩ ![t, 0] k h0) h1) h2) h3 j
      = k (ix2 ⟨t, ht⟩ (j 2)) := by
  rw [broadcastTo_apply _ h3 j (ix3 (0 : Fin 1) (0 : Fin 1) (j 2)) (fun a => by fin_cases a <;> simp),
    shapeCast_apply _ h2 _ (ix1 (j 2)) (by rw [Shape.rowMajor_val_three, Shape.rowMajor_val_one]; simp), tap_row t ht]

/-- One tap spread over the whole array, as the host spreads it. -/
theorem tap_whole (t : ℕ) (ht : t < 4) (k : (⟨2, ![4, 512]⟩ : Shape).Idx → α) (h0 : (⟨2, ![4, 512]⟩ : Shape).Slices ![t, 0] ⟨2, ![1, 512]⟩)
    (h1 : (⟨2, ![1, 512]⟩ : Shape).ShapeCasts ⟨1, ![512]⟩) (h2 : (⟨1, ![512]⟩ : Shape).BroadcastsInDim ⟨3, ![1, 1, 512]⟩ ![2])
    (h3 : (⟨3, ![1, 1, 512]⟩ : Shape).BroadcastsInDim ⟨3, ![4, 4096, 512]⟩ ![0, 1, 2]) (j : (⟨3, ![4, 4096, 512]⟩ : Shape).Idx) :
    broadcastInDim ⟨3, ![4, 4096, 512]⟩ ![0, 1, 2] h3 (broadcastInDim ⟨3, ![1, 1, 512]⟩ ![2] h2
        (shapeCast ⟨1, ![512]⟩ (extractStridedSlice ⟨2, ![1, 512]⟩ ![t, 0] k h0) h1)) j
      = k (ix2 ⟨t, ht⟩ (j 2)) := by
  rw [broadcastInDim_apply _ h3 _ j (ix3 (0 : Fin 1) (0 : Fin 1) (j 2)) (fun a => by fin_cases a <;> simp),
    broadcastInDim_apply _ h2 _ _ (ix1 (j 2)) (fun a => by fin_cases a; simp), tap_row t ht]

variable {B R T W : ℕ} (t : ℕ) (h : (⟨3, ![B, 3, 512]⟩ : Shape).Idx → α) (x : (⟨3, ![B, R, 512]⟩ : Shape).Idx → α)
  (hc : Shape.Concatenates [⟨3, ![B, 3, 512]⟩, ⟨3, ![B, R, 512]⟩] ⟨3, ![B, T, 512]⟩ 1)
  (hs : (⟨3, ![B, T, 512]⟩ : Shape).Slices ![0, t, 0] ⟨3, ![B, W, 512]⟩) (j : (⟨3, ![B, W, 512]⟩ : Shape).Idx)

/-- A row of three rows and a block behind them, `t` rows on: among the three. -/
theorem joined_front (r : Fin 3) (hr : r.val = t + (j 1).val) :
    extractStridedSlice ⟨3, ![B, W, 512]⟩ ![0, t, 0]
        (concatenate ⟨3, ![B, T, 512]⟩ 1 [⟨⟨3, ![B, 3, 512]⟩, h⟩, ⟨⟨3, ![B, R, 512]⟩, x⟩] hc) hs j = h (ix3 (j 0) r (j 2)) :=
  concatenate_pair_apply_left (t := ⟨3, ![B, T, 512]⟩) 1 h x hc _ rfl (ix3 (j 0) r (j 2)) fun a => by
    fin_cases a
    · exact (Nat.zero_add _).symm
    · exact hr
    · exact (Nat.zero_add _).symm

/-- And in the block behind. -/
theorem joined_behind (r : Fin R) (hr : r.val + 3 = t + (j 1).val) :
    extractStridedSlice ⟨3, ![B, W, 512]⟩ ![0, t, 0]
        (concatenate ⟨3, ![B, T, 512]⟩ 1 [⟨⟨3, ![B, 3, 512]⟩, h⟩, ⟨⟨3, ![B, R, 512]⟩, x⟩] hc) hs j = x (ix3 (j 0) r (j 2)) :=
  concatenate_pair_apply_right (t := ⟨3, ![B, T, 512]⟩) 1 h x hc _ rfl rfl (ix3 (j 0) r (j 2)) (fun a ha => by
    fin_cases a
    · exact (Nat.zero_add _).symm
    · exact absurd rfl ha
    · exact (Nat.zero_add _).symm) hr

end Reads

end Cert.HaloProof

end
-- ==== Proof.Device.lean ====
/-
What a grid point leaves, read at one index.
-/
module

public import proofs.«01_k».proof.Proof.Formula
public import proofs.«01_k».proof.Proof.Step

@[expose] public section

noncomputable section

namespace Cert.HaloProof

open Cert.KernelIdeal Cert.KernelIdeal.Gen
open Idealize.ShloMosaic Idealize.ShloMosaic.TcCoe Idealize.ShloMosaic.ValueIdx Idealize.SL.Sem

variable (k : Vec Ideal S4x512 .f32) (x : Vec Ideal S1x1024x512 .f32)

theorem same_taps : k0_pay2 k = k := shapeCast_self _ _
theorem same_rows : k0_pay3 x = x := shapeCast_self _ _

/-! ## The block on its own -/

section Plain
variable (s : ℕ → EReal) (j : S1x1024x512.Idx) (hs : ∀ r : Fin 1024, s (r.val + 3) = x (ix3 (j 0) r (j 2))) (hj : 3 ≤ (j 1).val)
include hs hj

/-- Away from the block's start the zeros in front of it are out of reach. -/
theorem front_read (t : ℕ) (ht : t < 3) (h) :
    extractStridedSlice S1x1024x512 ![0, t, 0] (k0_pay4 x) h j = s ((j 1).val + t) := by
  have hb : (j 1).val < 1024 := (j 1).isLt
  have hr : (j 1).val + t - 3 < 1024 := by omega
  unfold k0_pay4
  rw [same_rows]
  refine (joined_behind t _ x _ h j ⟨(j 1).val + t - 3, hr⟩ (by dsimp only; omega)).trans ?_
  rw [← hs]
  exact congrArg s (by dsimp only; omega)

theorem plain_read : plain k x j = swish (mix s k (j 1).val (j 2)) := by
  have h5 : k0_pay5 k x j = s ((j 1).val + 3) * k (ix2 3 (j 2)) + s (j 1).val * k (ix2 0 (j 2)) + s ((j 1).val + 1) * k (ix2 1 (j 2)) := by
    unfold k0_pay5
    simp only [addf_apply, mulf_apply, same_taps, same_rows]
    rw [tap_block 1024 3 (by decide), tap_block 1024 0 (by decide), tap_block 1024 1 (by decide),
      front_read x s j hs hj 0 (by decide), front_read x s j hs hj 1 (by decide)]
    have e : s ((j 1).val + 3) = x j := (hs (j 1)).trans (congrArg x (eq_ix3 j).symm)
    rw [e]
    rfl
  have h6 : k0_pay6 k x j = s ((j 1).val + 2) * k (ix2 2 (j 2)) := by
    unfold k0_pay6
    simp only [mulf_apply, same_taps]
    rw [tap_block 1024 2 (by decide), front_read x s j hs hj 2 (by decide)]
    rfl
  have hsum : k0_pay5 k x j + k0_pay6 k x j = mix s k (j 1).val (j 2) := by
    rw [h5, h6]
    unfold mix
    rw [add_assoc (s ((j 1).val + 3) * _), add_assoc (s ((j 1).val + 3) * _), add_comm (s ((j 1).val + 3) * _)]
  unfold plain k0_pay7
  rw [← hsum, ← swish_eq_mul, ← Ideal.ofBits_zero_f32, ← Ideal.ofBits_one_f32]
  rfl

end Plain

/-! ## The first rows -/

section Lead
variable (c : Dev nD) (h : Vec Ideal S1x3x512 .f32) (s : ℕ → EReal) (j : S1x3x512.Idx)

/-- Only the first device stands at place zero. -/
theorem place_zero : ∀ c : Dev nD, Scalar.cmpi .eq (place c) 0#32 = if c.val = 0 then 1#1 else 0#1 := by decide

variable (hx : ∀ r : Fin 3, s (r.val + 3) = x (ix3 (j 0) (r.castLE (by decide)) (j 2)))
  (hh : ∀ r : Fin 3, s r.val = if c.val = 0 then 0 else h (ix3 (j 0) r (j 2)))
include hx hh

theorem head_read (t : ℕ) (ht : t < 4) (hsl) :
    extractStridedSlice S1x3x512 ![0, t, 0] (k0_pay8 (place c) x h) hsl j = s ((j 1).val + t) := by
  have hb : (j 1).val < 3 := (j 1).isLt
  unfold k0_pay8
  by_cases hn : (j 1).val + t < 3
  · refine (joined_front t _ _ _ hsl j ⟨(j 1).val + t, hn⟩ (Nat.add_comm _ _)).trans ?_
    rw [show s ((j 1).val + t) = _ from hh ⟨(j 1).val + t, hn⟩, place_zero]
    by_cases hc : c.val = 0
    · rw [if_pos hc, if_pos hc, select_one]; exact Ideal.ofBits_zero_f32
    · rw [if_neg hc, if_neg hc, select_zero]
  · have hr : (j 1).val + t - 3 < 3 := by omega
    refine (joined_behind t _ _ _ hsl j ⟨(j 1).val + t - 3, hr⟩ (by dsimp only; omega)).trans ?_
    have e : s ((j 1).val + t) = x (ix3 (j 0) ((⟨(j 1).val + t - 3, hr⟩ : Fin 3).castLE (by decide)) (j 2)) := by
      rw [← hx]; exact congrArg s (by dsimp only; omega)
    rw [e]
    exact extractStridedSlice_apply _ x _ _ _ fun a => by fin_cases a <;> simp

theorem lead_read : lead c k x h j = swish (mix s k (j 1).val (j 2)) := by
  have h9 : k0_pay9 (place c) k x h j = s (j 1).val * k (ix2 0 (j 2)) + s ((j 1).val + 1) * k (ix2 1 (j 2)) + s ((j 1).val + 2) * k (ix2 2 (j 2)) := by
    unfold k0_pay9
    simp only [addf_apply, mulf_apply]
    rw [tap_block 3 0 (by decide), tap_block 3 1 (by decide), tap_block 3 2 (by decide),
      head_read x c h s j hx hh 0 (by decide), head_read x c h s j hx hh 1 (by decide), head_read x c h s j hx hh 2 (by decide)]
    rfl
  have h10 : k0_pay10 (place c) k x h j = s ((j 1).val + 3) * k (ix2 3 (j 2)) := by
    unfold k0_pay10
    simp only [mulf_apply]
    rw [tap_block 3 3 (by decide), head_read x c h s j hx hh 3 (by decide)]
    rfl
  have hsum : k0_pay9 (place c) k x h j + k0_pay10 (place c) k x h j = mix s k (j 1).val (j 2) := by rw [h9, h10]; rfl
  unfold lead k0_pay1
  rw [same_taps, same_rows, ← hsum, ← swish_eq_mul, ← Ideal.ofBits_zero_f32, ← Ideal.ofBits_one_f32]
  rfl

end Lead

/-- The block that a point leaves is the formula, given the signal it reads. -/
theorem left_read (c : Dev nD) (h : Vec Ideal S1x3x512 .f32) (s : ℕ → EReal) (j : S1x1024x512.Idx)
    (hs : ∀ r : Fin 1024, s (r.val + 3) = x (ix3 (j 0) r (j 2)))
    (hh : ∀ r : Fin 3, s r.val = if c.val = 0 then 0 else h (ix3 (j 0) r (j 2))) :
    patched (lead c k x h) (plain k x) j = swish (mix s k (j 1).val (j 2)) := by
  unfold patched
  by_cases hj : (j 1).val < 3
  · rw [dif_pos hj]
    exact lead_read k x c h s (early j hj) (fun r => hs (r.castLE (by decide))) hh
  · rw [dif_neg hj]
    exact plain_read k x s j hs (by omega)

end Cert.HaloProof

end
-- ==== Proof.Result.lean ====
/-
The kernel's result array is each device's block of the formula on the whole signal.
-/
module

public import proofs.«01_k».proof.Proof.Device
public import proofs.«01_k».proof.Proof.Run
public import Idealize.ShloMosaic.Lib.Layout

@[expose] public section

noncomputable section

namespace Cert.HaloProof

open Cert.KernelIdeal Cert.KernelIdeal.Gen
open Idealize.ShloMosaic Idealize.ShloMosaic.TcCoe Idealize.ShloMosaic.ValueIdx Idealize.SL.Sem
open Idealize.ShloMosaic.Pipeline (Dat)

/-- The shape of the whole signal. -/
abbrev SWhole : Shape := ⟨3, ![4, 4096, 512]⟩

/-! ## Where a point's blocks lie -/

/-- The batch entry of a point. -/
abbrev entry (t : Fin cfg0.N) : Fin 4 := ⟨t.val, t.isLt⟩

theorem rows_off : ∀ t : Fin cfg0.N, win0_0.index t 0 * win0_0.size 0 = t.val ∧ win0_0.index t 1 * win0_0.size 1 = 0 ∧ win0_0.index t 2 * win0_0.size 2 = 0 := by
  decide +kernel
theorem out_off : ∀ t : Fin cfg0.N, win0_2.index t 0 * win0_2.size 0 = t.val ∧ win0_2.index t 1 * win0_2.size 1 = 0 ∧ win0_2.index t 2 * win0_2.size 2 = 0 := by
  decide +kernel
theorem taps_off : ∀ t : Fin cfg0.N, win0_1.index t 0 * win0_1.size 0 = 0 ∧ win0_1.index t 1 * win0_1.size 1 = 0 := by
  decide +kernel
theorem halo_off : ∀ t : Fin cfg0.N, k0_off1 (grid0.coords t) = ![t.val, 0, 0] := by decide +kernel

theorem first_zero (y : S1x1024x512.Idx) : (y 0).val = 0 := Nat.lt_one_iff.1 (y 0).isLt

theorem rows_at (t : Fin cfg0.N) (y : S1x1024x512.Idx) : (win0_0.rect t).emb y = ix3 (entry t) (y 1) (y 2) :=
  funext fun a => Fin.ext (by
    obtain ⟨h0, h1, h2⟩ := rows_off t
    refine (win0_0.rect_emb_val t y a).trans ?_
    match a with
    | ⟨0, _⟩ => exact (congrArg (· + (y 0).val) h0).trans (by rw [first_zero y]; rfl)
    | ⟨1, _⟩ => exact (congrArg (· + (y 1).val) h1).trans (Nat.zero_add _)
    | ⟨2, _⟩ => exact (congrArg (· + (y 2).val) h2).trans (Nat.zero_add _))

theorem out_at (t : Fin cfg0.N) (y : S1x1024x512.Idx) : (win0_2.rect t).emb y = ix3 (entry t) (y 1) (y 2) :=
  funext fun a => Fin.ext (by
    obtain ⟨h0, h1, h2⟩ := out_off t
    refine (win0_2.rect_emb_val t y a).trans ?_
    match a with
    | ⟨0, _⟩ => exact (congrArg (· + (y 0).val) h0).trans (by rw [first_zero y]; rfl)
    | ⟨1, _⟩ => exact (congrArg (· + (y 1).val) h1).trans (Nat.zero_add _)
    | ⟨2, _⟩ => exact (congrArg (· + (y 2).val) h2).trans (Nat.zero_add _))

theorem taps_at (t : Fin cfg0.N) (y : S4x512.Idx) : (win0_1.rect t).emb y = y :=
  funext fun a => Fin.ext (by
    obtain ⟨h0, h1⟩ := taps_off t
    refine (win0_1.rect_emb_val t y a).trans ?_
    match a with
    | ⟨0, _⟩ => exact (congrArg (· + (y 0).val) h0).trans (Nat.zero_add _)
    | ⟨1, _⟩ => exact (congrArg (· + (y 1).val) h1).trans (Nat.zero_add _))

/-- Every place of the result is in the block of its batch entry. -/
theorem out_cover (i : S4x1024x512.Idx) : ∃ t : Fin cfg0.N, (cfg0.win 2).flush t = true ∧ i ∈ ((cfg0.win 2).blk t).view.set := by
  refine ⟨⟨(i 0).val, (i 0).isLt⟩, flush0_2 _, ?_⟩
  show i ∈ ((View.whole main_v1).slice (win0_2.rect ⟨(i 0).val, (i 0).isLt⟩)).set
  rw [View.set_slice_whole]
  have e : (win0_2.rect ⟨(i 0).val, (i 0).isLt⟩).emb (ix3 (0 : Fin 1) (i 1) (i 2) : S1x1024x512.Idx) = i :=
    (out_at ⟨(i 0).val, (i 0).isLt⟩ (ix3 (0 : Fin 1) (i 1) (i 2))).trans (eq_ix3 i).symm
  exact (LoadRect.mem_set _).mpr fun a => ⟨_, ((ix3 (0 : Fin 1) (i 1) (i 2) : S1x1024x512.Idx) a).isLt, congrArg (fun z : S4x1024x512.Idx => (z a).val) e.symm⟩

/-! ## What a point reads -/

variable (m : (ℓ : Loc nD τ sig) → Buf (Elt Ideal) ℓ)

theorem rowsAt_read (c : Dev nD) (t : Fin cfg0.N) (y : S1x1024x512.Idx) :
    rowsAt m c t y = m ((c : Thread nD τ).loc main_arg0) (ix3 (entry t) (y 1) (y 2)) :=
  congrArg (m ((c : Thread nD τ).loc main_arg0)) (rows_at t y)

theorem tapsAt_eq (c : Dev nD) (t : Fin cfg0.N) : tapsAt m c t = m ((c : Thread nD τ).loc main_arg1) :=
  funext fun y => congrArg (m ((c : Thread nD τ).loc main_arg1)) (taps_at t y)

/-- The arrived rows are the last three of the left neighbour's block. -/
theorem arrived_read (c : Dev nD) (t : Fin cfg0.N) (y : S1x3x512.Idx) (r : Fin 1024) (hr : r.val = 1021 + (y 1).val) :
    arrived m c (grid0.coords t) y = m ((left c : Thread nD τ).loc main_arg0) (ix3 (entry t) r (y 2)) := by
  unfold arrived tailOf
  refine congrArg (m ((left c : Thread nD τ).loc main_arg0)) (funext fun a => Fin.ext ?_)
  have h0 : (y 0).val = 0 := Nat.lt_one_iff.1 (y 0).isLt
  have ho := halo_off t
  show (![0, 1021, 0] : Fin 3 → ℕ) a + 1 * (k0_off1 (grid0.coords t) a + 1 * (y a).val) = _
  rw [ho]
  match a with
  | ⟨0, _⟩ => show 0 + 1 * (t.val + 1 * (y 0).val) = t.val; omega
  | ⟨1, _⟩ => show 1021 + 1 * (0 + 1 * (y 1).val) = r.val; omega
  | ⟨2, _⟩ => show 0 + 1 * (0 + 1 * (y 2).val) = (y 2).val; omega

/-! ## The whole result -/

section Blocks
variable (X : Vec Ideal SWhole .f32)

/-- A device's block, read in the whole signal. -/
theorem block_read (Y : Vec Ideal SWhole .f32) (c : Dev nD) (b : Fin 4) (r : Fin 1024) (q : Fin 512) (n : Fin 4096) (hn : n.val = c.val * 1024 + r.val) :
    (Layout.block S4x1024x512 SWhole 1 4 c Y : Vec Ideal S4x1024x512 .f32) (ix3 b r q) = Y (ix3 b n q) := by
  refine congrArg Y (funext fun a => Fin.ext ?_)
  match a with
  | ⟨0, _⟩ => rfl
  | ⟨1, _⟩ => exact hn.symm
  | ⟨2, _⟩ => rfl

theorem left_val : ∀ c : Dev nD, c.val ≠ 0 → (left c).val = c.val - 1 := by decide

variable (k : Vec Ideal S4x512 .f32)
  (hX : ∀ c : Dev nD, m ((c : Thread nD τ).loc main_arg0) = (Layout.block S4x1024x512 SWhole 1 4 c X : Vec Ideal S4x1024x512 .f32))
  (hk : ∀ c : Dev nD, m ((c : Thread nD τ).loc main_arg1) = k)
include hX hk

theorem leftAt_read (c : Dev nD) (t : Fin cfg0.N) (y : S1x1024x512.Idx) :
    leftAt m c t y = (Layout.block S4x1024x512 SWhole 1 4 c (answer X k) : Vec Ideal S4x1024x512 .f32) (ix3 (entry t) (y 1) (y 2)) := by
  have hc : c.val < 4 := c.isLt
  have hy : (y 1).val < 1024 := (y 1).isLt
  refine Eq.trans ?_ (block_read (answer X k) c (entry t) (y 1) (y 2) ⟨c.val * 1024 + (y 1).val, by omega⟩ rfl).symm
  refine (left_read (tapsAt m c t) (rowsAt m c t) c (arrived m c (grid0.coords t))
    (fun n => padded X (entry t) (y 2) (c.val * 1024 + n)) y (fun r => ?_) (fun r => ?_)).trans ?_
  · have hr := r.isLt
    refine (padded_add X (entry t) (y 2) ⟨c.val * 1024 + r.val, by omega⟩ _ rfl).trans ?_
    refine Eq.trans ?_ (rowsAt_read m c t (ix3 (y 0) r (y 2))).symm
    rw [hX c]
    exact (block_read X c (entry t) r (y 2) ⟨c.val * 1024 + r.val, by omega⟩ rfl).symm
  · have hr := r.isLt
    by_cases h0 : c.val = 0
    · rw [if_pos h0]
      exact padded_lt X (entry t) (y 2) _ (by rw [h0]; omega)
    · rw [if_neg h0]
      refine (padded_add X (entry t) (y 2) ⟨(c.val - 1) * 1024 + (1021 + r.val), by omega⟩ _
        (show c.val * 1024 + r.val = (c.val - 1) * 1024 + (1021 + r.val) + 3 by omega)).trans ?_
      refine Eq.trans ?_ (arrived_read m c t (ix3 (y 0) r (y 2)) ⟨1021 + r.val, by omega⟩ rfl).symm
      rw [hX (left c)]
      exact (block_read X (left c) (entry t) ⟨1021 + r.val, by omega⟩ (y 2) ⟨(c.val - 1) * 1024 + (1021 + r.val), by omega⟩ (by rw [left_val c h0])).symm
  · rw [tapsAt_eq, hk c]
    rfl

/-- The result array of a device is its block of the formula. -/
theorem result_eq (c : Dev nD) : result m c = (Layout.block S4x1024x512 SWhole 1 4 c (answer X k) : Vec Ideal S4x1024x512 .f32) :=
  (pdat m c).arrAt_eq_of_cover 2 (Layout.block S4x1024x512 SWhole 1 4 c (answer X k) : Vec Ideal S4x1024x512 .f32)
    (fun t _ => funext fun y => (leftAt_read m X k hX hk c t y).trans
      (congrArg (Layout.block S4x1024x512 SWhole 1 4 c (answer X k) : Vec Ideal S4x1024x512 .f32) (out_at t y)).symm)
    out_cover

end Blocks

end Cert.HaloProof

end
-- ==== Proof.Whole.lean ====
/-
The reference's value is the formula on the whole signal.
-/
module

public import proofs.«01_k».proof.Proof.Formula
public import proofs.«01_k».proof.Proof.Gen.ReferenceIdeal.Run

@[expose] public section

noncomputable section

namespace Cert.HaloProof

open Cert.ReferenceIdeal Cert.ReferenceIdeal.Gen
open Idealize.ShloMosaic Idealize.ShloMosaic.TcCoe Idealize.ShloMosaic.ValueIdx Idealize.SL.Sem

/-- The padded signal as the host joins it. -/
def hostPadded (X : Vec Ideal S4x4096x512 .f32) : Vec Ideal S4x4099x512 .f32 :=
  concatenate S4x4099x512 1 [⟨S4x3x512, broadcastInDim S4x3x512 ![] bcast_S_S4x3x512 (constant (F := Ideal) S_ .f32 0x00000000#32)⟩, ⟨S4x4096x512, X⟩]
    concatenates_S4x3x512_S4x4096x512_S4x4099x512_d1

/-- Read `t` rows on, it is the formula's padded signal. -/
theorem hostPadded_read (X : Vec Ideal S4x4096x512 .f32) (t : ℕ) (ht : t < 4) (hs : S4x4099x512.Slices ![0, t, 0] S4x4096x512) (j : S4x4096x512.Idx) :
    extractStridedSlice S4x4096x512 ![0, t, 0] (hostPadded X) hs j = padded X (j 0) (j 2) ((j 1).val + t) := by
  have hj : (j 1).val < 4096 := (j 1).isLt
  by_cases hn : (j 1).val + t < 3
  · refine Eq.trans ?_ (padded_lt X (j 0) (j 2) _ hn).symm
    refine (joined_front t _ X _ hs j ⟨(j 1).val + t, hn⟩ (Nat.add_comm _ _)).trans ?_
    rw [broadcastInDim_scalar_apply]
    exact Ideal.ofBits_zero_f32
  · have hr : (j 1).val + t - 3 < 4096 := by omega
    refine Eq.trans ?_ (padded_add X (j 0) (j 2) ⟨(j 1).val + t - 3, hr⟩ _ (show (j 1).val + t = (j 1).val + t - 3 + 3 by omega)).symm
    exact joined_behind t _ X _ hs j ⟨(j 1).val + t - 3, hr⟩ (by dsimp only; omega)

/-- The reference's sum of four products. -/
def hostSum (X : Vec Ideal S4x4096x512 .f32) (k : Vec Ideal S4x512 .f32) : FVec Ideal S4x4096x512 .f32 :=
  addf (addf (addf (addf (broadcastInDim S4x4096x512 ![] bcast_S_S4x4096x512 (constant (F := Ideal) S_ .f32 0x00000000#32))
    (mulf (extractStridedSlice S4x4096x512 ![0, 0, 0] (hostPadded X) slices_S4x4099x512_S4x4096x512_0_0_0)
      (broadcastInDim S4x4096x512 ![0, 1, 2] bcast_S1x1x512_S4x4096x512_0_1_2 (broadcastInDim S1x1x512 ![2] bcast_S512_S1x1x512_2
        (shapeCast S512 (extractStridedSlice S1x512 ![0, 0] k slices_S4x512_S1x512_0_0) shapeCasts_S1x512_S512)))))
    (mulf (extractStridedSlice S4x4096x512 ![0, 1, 0] (hostPadded X) slices_S4x4099x512_S4x4096x512_0_1_0)
      (broadcastInDim S4x4096x512 ![0, 1, 2] bcast_S1x1x512_S4x4096x512_0_1_2 (broadcastInDim S1x1x512 ![2] bcast_S512_S1x1x512_2
        (shapeCast S512 (extractStridedSlice S1x512 ![1, 0] k slices_S4x512_S1x512_1_0) shapeCasts_S1x512_S512)))))
    (mulf (extractStridedSlice S4x4096x512 ![0, 2, 0] (hostPadded X) slices_S4x4099x512_S4x4096x512_0_2_0)
      (broadcastInDim S4x4096x512 ![0, 1, 2] bcast_S1x1x512_S4x4096x512_0_1_2 (broadcastInDim S1x1x512 ![2] bcast_S512_S1x1x512_2
        (shapeCast S512 (extractStridedSlice S1x512 ![2, 0] k slices_S4x512_S1x512_2_0) shapeCasts_S1x512_S512)))))
    (mulf (extractStridedSlice S4x4096x512 ![0, 3, 0] (hostPadded X) slices_S4x4099x512_S4x4096x512_0_3_0)
      (broadcastInDim S4x4096x512 ![0, 1, 2] bcast_S1x1x512_S4x4096x512_0_1_2 (broadcastInDim S1x1x512 ![2] bcast_S512_S1x1x512_2
        (shapeCast S512 (extractStridedSlice S1x512 ![3, 0] k slices_S4x512_S1x512_3_0) shapeCasts_S1x512_S512))))

theorem hostSum_read (X : Vec Ideal S4x4096x512 .f32) (k : Vec Ideal S4x512 .f32) (j : S4x4096x512.Idx) :
    hostSum X k j = mix (padded X (j 0) (j 2)) k (j 1).val (j 2) := by
  unfold hostSum
  simp only [addf_apply, mulf_apply]
  rw [hostPadded_read X 0 (by decide), hostPadded_read X 1 (by decide), hostPadded_read X 2 (by decide), hostPadded_read X 3 (by decide),
    tap_whole 0 (by decide), tap_whole 1 (by decide), tap_whole 2 (by decide), tap_whole 3 (by decide), broadcastInDim_scalar_apply]
  rw [show (constant (F := Ideal) S_ .f32 0x00000000#32) ix0 = (0 : EReal) from Ideal.ofBits_zero_f32, zero_add]
  rfl

/-- What the reference's result buffer ends at. -/
theorem reference_value (m : (ℓ : Loc nD τ sig) → Buf (Elt Ideal) ℓ) (c : Dev nD) :
    Value.res_main_v35 (F := Ideal) m c = answer (m ((c : Thread nD τ).loc main_arg0)) (m ((c : Thread nD τ).loc main_arg1)) := by
  have e : Value.res_main_v35 (F := Ideal) m c = Host.divf (hostSum (m ((c : Thread nD τ).loc main_arg0)) (m ((c : Thread nD τ).loc main_arg1)))
      (addf (broadcastInDim S4x4096x512 ![] bcast_S_S4x4096x512 (constant (F := Ideal) S_ .f32 0x3F800000#32))
        (Host.exp (Host.negf (hostSum (m ((c : Thread nD τ).loc main_arg0)) (m ((c : Thread nD τ).loc main_arg1)))))) := rfl
  rw [e]
  funext j
  rw [hostDivf_apply, addf_apply, broadcastInDim_scalar_apply,
    show (constant (F := Ideal) S_ .f32 0x3F800000#32) ix0 = (1 : EReal) from Ideal.ofBits_one_f32]
  unfold answer
  rw [← hostSum_read]
  rfl

/-- The reference runs: its result is the formula, its arguments stay, and no counter is left. -/
theorem reference_run (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c : Thread nD τ).loc main_v35) = answer (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun r h => ⟨fun c => ⟨(h c).1.trans (reference_value m c), (h c).2.1, (h c).2.2⟩, sem_eq_zero_of_no_sems (by decide) r.2⟩)
    (Value.run (F := Ideal) m ρ)

end Cert.HaloProof

end
-- ==== Proof.lean ====
/-
The certificate: the kernel's runs, the reference's run, and that both end at the same values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Result
public import proofs.«01_k».proof.Proof.Whole
public import Idealize.ShloMosaic.Adequacy
public import Idealize.ShloMosaic.Init

@[expose] public section

noncomputable section

namespace Cert.Proof

open Idealize.ShloMosaic Idealize.ShloMosaic.TcCoe Idealize.SL.Sem

/-- The kernel at bit patterns.  Its program is the same text as the one read at extended reals. -/
theorem kernel_bits : @Cert.quiescent_Kernel Cert.Kernel.Gen.facts := fun m ρ _ => Cert.HaloProof.kernel_run (F := Bits) m ρ

/-- The kernel at extended reals. -/
theorem kernel_ideal : @Cert.quiescent_KernelIdeal Cert.KernelIdeal.Gen.facts := fun m ρ _ =>
  (θ_run (Cert.KernelIdeal.defs (F := Ideal)) _ _).mono (fun _ h => ⟨fun c => ⟨(h.1 c).1, (h.1 c).2.1⟩, h.2⟩) (Cert.HaloProof.run_all (F := Ideal) m ρ)

/-- The reference at extended reals. -/
theorem reference_ideal : @Cert.quiescent_ReferenceIdeal Cert.ReferenceIdeal.Gen.facts := fun m ρ _ =>
  (θ_run (Cert.ReferenceIdeal.defs (F := Ideal)) _ _).mono (fun _ h => ⟨fun c => (h.1 c).2, h.2⟩) (Cert.HaloProof.reference_run m ρ)

/-- Each device ends with its block of what the reference ends with. -/
theorem same_values : @Cert.algebraic_KernelIdeal_ReferenceIdeal Cert.KernelIdeal.Gen.facts Cert.ReferenceIdeal.Gen.facts :=
  fun m ρ m' ρ' _ hm =>
    ⟨Cert.HaloProof.answer (m' (((0 : Dev Cert.ReferenceIdeal.nD) : Thread Cert.ReferenceIdeal.nD Cert.ReferenceIdeal.τ).loc Cert.ReferenceIdeal.main_arg0))
        (m' (((0 : Dev Cert.ReferenceIdeal.nD) : Thread Cert.ReferenceIdeal.nD Cert.ReferenceIdeal.τ).loc Cert.ReferenceIdeal.main_arg1)),
      (θ_run (Cert.KernelIdeal.defs (F := Ideal)) _ _).mono
        (fun _ h c => ⟨(h.1 c).2.2.trans (Cert.HaloProof.result_eq m _ _ (fun c => (hm c).1) (fun c => (hm c).2) c), (h.1 c).1, (h.1 c).2.1⟩)
        (Cert.HaloProof.run_all (F := Ideal) m ρ),
      (θ_run (Cert.ReferenceIdeal.defs (F := Ideal)) _ _).mono (fun _ h => h.1 0) (Cert.HaloProof.reference_run m' ρ')⟩

theorem claim : Cert.Claim :=
  ⟨Cert.Kernel.Gen.facts, Cert.KernelIdeal.Gen.facts, Cert.ReferenceIdeal.Gen.facts,
    kernel_bits, kernel_ideal, reference_ideal, trivial, same_values⟩

end Cert.Proof

end
